-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_7) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v0_0)) (v1 : (c : Dev Cert.Kernel.nD) → Buf (Elt Bits) ((c.tc : Thread Cert.Kernel.nD Cert.Kernel.τ).loc Cert.Kernel.main_v0_1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0_0) = v0 c
          ∧ r.2.mem ((c.tc : Thread Cert.Kernel.nD Cert.Kernel.τ).loc Cert.Kernel.main_v0_1) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v13_7) = v0 c
          ∧ r.2.mem ((c.tc : Thread Cert.Reference.nD Cert.Reference.τ).loc Cert.Reference.main_v18) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v61) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v60) = v0 c
          ∧ r.2.mem ((c.tc : Thread Cert.Reference7Ideal.nD Cert.Reference7Ideal.τ).loc Cert.Reference7Ideal.main_v62) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v22) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v11)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v19) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v8)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v8) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v19) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel.lean ====
abbrev S8448x512 : Shape := ⟨2, ![8448, 512]⟩
abbrev S256x512 : Shape := ⟨2, ![256, 512]⟩
abbrev S1x512 : Shape := ⟨2, ![1, 512]⟩

abbrev nBuf : Space → Nat
  | .hbm => 6
  | .vmem => 14
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x512, .f32⟩
  | .hbm, ⟨5, _⟩ => ⟨S8448x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x512, .f32⟩
  | .local _ .vmem, ⟨13, _⟩ => ⟨S1x512, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32_4 : BitVec 32 := 0#32
  let c256_i32 : BitVec 32 := 256#32
  let v5 : BitVec 32 := Scalar.addi c0_i32_4 c256_i32
  let c1_i32 : BitVec 32 := 1#32
  ⟨c0_i32_4, v5, c1_i32⟩
def k0_off1 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let v13 : Index := Scalar.indexCast arg9
  let c0_10 : Index := 0#32
  ![v13.toNat, 0]
def k0_off2 (k0_t1 : Fin k0_t1_loop.trips) : Fin 2 → Nat :=
  let c255_i32 : BitVec 32 := 255#32
  let c0_i32_4 : BitVec 32 := 0#32
  let c1_i32 : BitVec 32 := 1#32
  let arg9 : BitVec 32 := Scf.iv c0_i32_4 c1_i32 k0_t1
  let v21 : BitVec 32 := Scalar.subi c255_i32 arg9
  let v22 : Index := Scalar.indexCast v21
  let c0_13 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 1 := Scalar.cmpi .slt arg0 c1_i32
  let c0_i32 : BitVec 32 := 0#32
  let v1 : BitVec 32 := Scalar.subi c0_i32 arg0
  let c1_i32_0 : BitVec 32 := 1#32
  let v2 : BitVec 32 := Scalar.subi arg0 c1_i32_0
  let c32_i32 : BitVec 32 := 32#32
  let v3 : BitVec 32 := Scalar.subi c32_i32 v2
  let v4 : BitVec 32 := Scalar.select v0 v1 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c0_i32 : BitVec 32 := 0#32
  let v1 : BitVec 32 := Scalar.subi c0_i32 arg0
  let c1_i32_0 : BitVec 32 := 1#32
  let v2 : BitVec 32 := Scalar.subi arg0 c1_i32_0
  let c32_i32 : BitVec 32 := 32#32
  let v3 : BitVec 32 := Scalar.subi c32_i32 v2
  let v4 : BitVec 32 := Scalar.select v0 v1 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 1 := Scalar.cmpi .slt arg0 c1_i32
  let c0_i32 : BitVec 32 := 0#32
  let v1 : BitVec 32 := Scalar.subi c0_i32 arg0
  let c1_i32_0 : BitVec 32 := 1#32
  let v2 : BitVec 32 := Scalar.subi arg0 c1_i32_0
  let c32_i32 : BitVec 32 := 32#32
  let v3 : BitVec 32 := Scalar.subi c32_i32 v2
  let v4 : BitVec 32 := Scalar.select v0 v1 v3
  let c0_i32_1 : BitVec 32 := 0#32
  let c0_i32_2 : BitVec 32 := 0#32
  ![v4.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference.lean ====
abbrev S8448x512 : Shape := ⟨2, ![8448, 512]⟩
abbrev S_ : Shape := ⟨0, ![]⟩
abbrev S512 : Shape := ⟨1, ![512]⟩
abbrev S256x512 : Shape := ⟨2, ![256, 512]⟩
abbrev S8192x512 : Shape := ⟨2, ![8192, 512]⟩
abbrev S1x512 : Shape := ⟨2, ![1, 512]⟩

abbrev nBuf : Space → Nat
  | .hbm => 61
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S_, .f32⟩
  | .hbm, ⟨5, _⟩ => ⟨S512, .f32⟩
  | .hbm, ⟨6, _⟩ => ⟨S256x512, .f32⟩
  | .hbm, ⟨7, _⟩ => ⟨S256x512, .f32⟩
  | .hbm, ⟨8, _⟩ => ⟨S8192x512, .f32⟩
  | .hbm, ⟨9, _⟩ => ⟨S8192x512, .f32⟩
  | .hbm, ⟨10, _⟩ => ⟨S8448x512, .f32⟩
  | .hbm, ⟨11, _⟩ => ⟨S256x512, .f32⟩
  | .hbm, ⟨12, _⟩ => ⟨S256x512, .f32⟩
  | .hbm, ⟨13, _⟩ => ⟨S8192x512, .f32⟩
  | .hbm, ⟨14, _⟩ => ⟨S8192x512, .f32⟩
  | .hbm, ⟨15, _⟩ => ⟨S8448x512, .f32⟩
  | .hbm, ⟨16, _⟩ => ⟨S_, .f32⟩
  | .hbm, ⟨17, _⟩ => ⟨S8448x512, .f32⟩
  | .hbm, ⟨18, _⟩ => ⟨S_, .f32⟩
  | .hbm, ⟨19, _⟩ => ⟨S8448x512, .f32⟩
  | .hbm, ⟨20, _⟩ => ⟨S_, .i32⟩
  | .hbm, ⟨21, _⟩ => ⟨S8448x512, .f32⟩
  | .hbm, ⟨22, _⟩ => ⟨S8448x512, .f32⟩
  | .hbm, ⟨23, _⟩ => ⟨S8448x512, .f32⟩
  | .hbm, ⟨24, _⟩ => ⟨S8448x512, .f32⟩
  | .hbm, ⟨25, _⟩ => ⟨S_, .i32⟩
  | .hbm, ⟨26, _⟩ => ⟨S512, .f32⟩
  | .hbm, ⟨27, _⟩ => ⟨S512, .f32⟩
  | .hbm, ⟨28, _⟩ => ⟨S8448x512, .f32⟩
  | .hbm, ⟨29, _⟩ => ⟨S8448x512, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S1x512, .f32⟩
  | .hbm, ⟨34, _⟩ => ⟨S512, .f32⟩
  | .hbm, ⟨35, _⟩ => ⟨S_, .i32⟩
  | .hbm, ⟨36, _⟩ => ⟨S1x512, .f32⟩
  | .hbm, ⟨37, _⟩ => ⟨S512, .f32⟩
  | .hbm, ⟨38, _⟩ => ⟨S_, .i32⟩
  | .hbm, ⟨39, _⟩ => ⟨S1x512, .f32⟩
  | .hbm, ⟨40, _⟩ => ⟨S512, .f32⟩
  | .hbm, ⟨41, _⟩ => ⟨S_, .i32⟩
  | .hbm, ⟨42, _⟩ => ⟨S1x512, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S1x512, .f32⟩
  | .hbm, ⟨49, _⟩ => ⟨S_, .i32⟩
  | .hbm, ⟨50, _⟩ => ⟨S8448x512, .f32⟩
  | .hbm, ⟨51, _⟩ => ⟨S1x512, .f32⟩
  | .hbm, ⟨52, _⟩ => ⟨S_, .i32⟩
  | .hbm, ⟨53, _⟩ => ⟨S8448x512, .f32⟩
  | .hbm, ⟨54, _⟩ => ⟨S_, .i32⟩
  | .hbm, ⟨55, _⟩ => ⟨S_, .i32⟩
  | .hbm, ⟨56, _⟩ => ⟨S256x512, .f32⟩
  | .hbm, ⟨57, _⟩ => ⟨S256x512, .f32⟩
  | .hbm, ⟨58, _⟩ => ⟨S8192x512, .f32⟩
  | .hbm, ⟨59, _⟩ => ⟨S8192x512, .f32⟩
  | .hbm, ⟨60, _⟩ => ⟨S8448x512, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_c : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v13_6 : Ref sig .tc := ⟨.hbm, 27, rfl⟩
abbrev main_v13_7 : Ref sig .tc := ⟨.hbm, 28, rfl⟩
abbrev main_v13_8 : Ref sig .tc := ⟨.hbm, 29, rfl⟩
abbrev main_while0c_c_10 : Ref sig .tc := ⟨.hbm, 30, rfl⟩
abbrev main_while0c_v19 : Ref sig .tc := ⟨.hbm, 31, rfl⟩
abbrev main_while0b_call4_c : Ref sig .tc := ⟨.hbm, 32, rfl⟩
abbrev main_while0b_call4_v0 : Ref sig .tc := ⟨.hbm, 33, rfl⟩
abbrev main_while0b_v19 : Ref sig .tc := ⟨.hbm, 34, rfl⟩
abbrev main_while0b_call5_c : Ref sig .tc := ⟨.hbm, 35, rfl⟩
abbrev main_while0b_call5_v0 : Ref sig .tc := ⟨.hbm, 36, rfl⟩
abbrev main_while0b_v20 : Ref sig .tc := ⟨.hbm, 37, rfl⟩
abbrev main_while0b_call6_c : Ref sig .tc := ⟨.hbm, 38, rfl⟩
abbrev main_while0b_call6_v0 : Ref sig .tc := ⟨.hbm, 39, rfl⟩
abbrev main_while0b_v21 : Ref sig .tc := ⟨.hbm, 40, rfl⟩
abbrev main_while0b_call7_c : Ref sig .tc := ⟨.hbm, 41, rfl⟩
abbrev main_while0b_call7_v0 : Ref sig .tc := ⟨.hbm, 42, rfl⟩
abbrev main_while0b_v22 : Ref sig .tc := ⟨.hbm, 43, rfl⟩
abbrev main_while0b_v23 : Ref sig .tc := ⟨.hbm, 44, rfl⟩
abbrev main_while0b_v24 : Ref sig .tc := ⟨.hbm, 45, rfl⟩
abbrev main_while0b_v25 : Ref sig .tc := ⟨.hbm, 46, rfl⟩
abbrev main_while0b_v26 : Ref sig .tc := ⟨.hbm, 47, rfl⟩
abbrev main_while0b_call8_v0 : Ref sig .tc := ⟨.hbm, 48, rfl⟩
abbrev main_while0b_call8_c : Ref sig .tc := ⟨.hbm, 49, rfl⟩
abbrev main_while0b_v27 : Ref sig .tc := ⟨.hbm, 50, rfl⟩
abbrev main_while0b_call9_v0 : Ref sig .tc := ⟨.hbm, 51, rfl⟩
abbrev main_while0b_call9_c : Ref sig .tc := ⟨.hbm, 52, rfl⟩
abbrev main_while0b_v28 : Ref sig .tc := ⟨.hbm, 53, rfl⟩
abbrev main_while0b_c_10 : Ref sig .tc := ⟨.hbm, 54, rfl⟩
abbrev main_while0b_v29 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩

abbrev nD : Nat := 1
abbrev τ : Topo := Topo.v7x

variable {F : FTy → Type} [FloatOps F]

abbrev main_while0_count : Scf.Loop 32 := ⟨0#32, 8448#32, 1#32⟩
-- ==== Kernel2.lean ====
abbrev S8448x2048 : Shape := ⟨2, ![8448, 2048]⟩
abbrev S2x2048x14336 : Shape := ⟨3, ![2, 2048, 14336]⟩
abbrev S8448x6144 : Shape := ⟨2, ![8448, 6144]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2x2048x14336, .f32⟩
  | .hbm, ⟨2, _⟩ => ⟨S8448x2048, .bf16⟩
  | .hbm, ⟨3, _⟩ => ⟨S8448x6144, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1408x1024, .f32⟩
  | .local _ .vmem, ⟨5, _⟩ => ⟨S1408x1024, .f32⟩
  | .local _ .vmem, ⟨6, _⟩ => ⟨S2048x1024, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8448x2048 : Shape := ⟨2, ![8448, 2048]⟩
abbrev S2x2048x14336 : Shape := ⟨3, ![2, 2048, 14336]⟩
abbrev S1x2048x14336 : Shape := ⟨3, ![1, 2048, 14336]⟩
abbrev S2048x14336 : Shape := ⟨2, ![2048, 14336]⟩
abbrev S8448x14336 : Shape := ⟨2, ![8448, 14336]⟩
abbrev S8448x6144 : Shape := ⟨2, ![8448, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048x14336, .f32⟩
  | .hbm, ⟨2, _⟩ => ⟨S1x2048x14336, .f32⟩
  | .hbm, ⟨3, _⟩ => ⟨S2048x14336, .f32⟩
  | .hbm, ⟨4, _⟩ => ⟨S8448x14336, .f32⟩
  | .hbm, ⟨5, _⟩ => ⟨S8448x6144, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S8448x2048 : Shape := ⟨2, ![8448, 2048]⟩
abbrev S2x2048x14336 : Shape := ⟨3, ![2, 2048, 14336]⟩
abbrev S8448x8192 : Shape := ⟨2, ![8448, 8192]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2x2048x14336, .f32⟩
  | .hbm, ⟨2, _⟩ => ⟨S8448x2048, .bf16⟩
  | .hbm, ⟨3, _⟩ => ⟨S8448x8192, .bf16⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S2048x1024, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8448x2048 : Shape := ⟨2, ![8448, 2048]⟩
abbrev S2x2048x14336 : Shape := ⟨3, ![2, 2048, 14336]⟩
abbrev S1x2048x14336 : Shape := ⟨3, ![1, 2048, 14336]⟩
abbrev S2048x14336 : Shape := ⟨2, ![2048, 14336]⟩
abbrev S8448x14336 : Shape := ⟨2, ![8448, 14336]⟩
abbrev S8448x8192 : Shape := ⟨2, ![8448, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048x14336, .f32⟩
  | .hbm, ⟨2, _⟩ => ⟨S1x2048x14336, .f32⟩
  | .hbm, ⟨3, _⟩ => ⟨S2048x14336, .f32⟩
  | .hbm, ⟨4, _⟩ => ⟨S8448x14336, .f32⟩
  | .hbm, ⟨5, _⟩ => ⟨S8448x8192, .f32⟩
  | .hbm, ⟨6, _⟩ => ⟨S8448x8192, .f32⟩
  | .hbm, ⟨7, _⟩ => ⟨S8448x8192, .f32⟩
  | .hbm, ⟨8, _⟩ => ⟨S_, .f32⟩
  | .hbm, ⟨9, _⟩ => ⟨S8448x8192, .f32⟩
  | .hbm, ⟨10, _⟩ => ⟨S8448x8192, .f32⟩
  | .hbm, ⟨11, _⟩ => ⟨S_, .f32⟩
  | .hbm, ⟨12, _⟩ => ⟨S8448x8192, .f32⟩
  | .hbm, ⟨13, _⟩ => ⟨S8448x8192, .f32⟩
  | .hbm, ⟨14, _⟩ => ⟨S8448x8192, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel4.lean ====
abbrev S8448x512 : Shape := ⟨2, ![8448, 512]⟩
abbrev S8448x8192 : Shape := ⟨2, ![8448, 8192]⟩
abbrev S2x4x512x2048 : Shape := ⟨4, ![2, 4, 512, 2048]⟩
abbrev S1x4x512x2048 : Shape := ⟨4, ![1, 4, 512, 2048]⟩
abbrev S4x512x2048 : Shape := ⟨3, ![4, 512, 2048]⟩
abbrev S8448x2048 : Shape := ⟨2, ![8448, 2048]⟩
abbrev S256x512 : Shape := ⟨2, ![256, 512]⟩
abbrev S256x8192 : Shape := ⟨2, ![256, 8192]⟩
abbrev S256x2048 : Shape := ⟨2, ![256, 2048]⟩
abbrev S1x512x2048 : Shape := ⟨3, ![1, 512, 2048]⟩
abbrev S512x2048 : Shape := ⟨2, ![512, 2048]⟩

abbrev nBuf : Space → Nat
  | .hbm => 15
  | .vmem => 13
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x8192, .f32⟩
  | .hbm, ⟨5, _⟩ => ⟨S2x4x512x2048, .f32⟩
  | .hbm, ⟨6, _⟩ => ⟨S8448x512, .bf16⟩
  | .hbm, ⟨7, _⟩ => ⟨S8448x512, .bf16⟩
  | .hbm, ⟨8, _⟩ => ⟨S8448x512, .bf16⟩
  | .hbm, ⟨9, _⟩ => ⟨S8448x512, .bf16⟩
  | .hbm, ⟨10, _⟩ => ⟨S8448x8192, .bf16⟩
  | .hbm, ⟨11, _⟩ => ⟨S1x4x512x2048, .f32⟩
  | .hbm, ⟨12, _⟩ => ⟨S4x512x2048, .f32⟩
  | .hbm, ⟨13, _⟩ => ⟨S4x512x2048, .bf16⟩
  | .hbm, ⟨14, _⟩ => ⟨S8448x2048, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x8192, .bf16⟩
  | .local _ .vmem, ⟨9, _⟩ => ⟨S256x8192, .bf16⟩
  | .local _ .vmem, ⟨10, _⟩ => ⟨S4x512x2048, .bf16⟩
  | .local _ .vmem, ⟨11, _⟩ => ⟨S256x2048, .bf16⟩
  | .local _ .vmem, ⟨12, _⟩ => ⟨S256x2048, .bf16⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8448x512 : Shape := ⟨2, ![8448, 512]⟩
abbrev S8448x8192 : Shape := ⟨2, ![8448, 8192]⟩
abbrev S2x4x512x2048 : Shape := ⟨4, ![2, 4, 512, 2048]⟩
abbrev S8448x1x512 : Shape := ⟨3, ![8448, 1, 512]⟩
abbrev S8448x4x512 : Shape := ⟨3, ![8448, 4, 512]⟩
abbrev S1x4x512x2048 : Shape := ⟨4, ![1, 4, 512, 2048]⟩
abbrev S4x512x2048 : Shape := ⟨3, ![4, 512, 2048]⟩
abbrev S4x2048x8448 : Shape := ⟨3, ![4, 2048, 8448]⟩
abbrev S8448x4x2048 : Shape := ⟨3, ![8448, 4, 2048]⟩
abbrev S_ : Shape := ⟨0, ![]⟩
abbrev S8448x2048 : Shape := ⟨2, ![8448, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x8192, .f32⟩
  | .hbm, ⟨5, _⟩ => ⟨S2x4x512x2048, .f32⟩
  | .hbm, ⟨6, _⟩ => ⟨S8448x1x512, .f32⟩
  | .hbm, ⟨7, _⟩ => ⟨S8448x1x512, .f32⟩
  | .hbm, ⟨8, _⟩ => ⟨S8448x1x512, .f32⟩
  | .hbm, ⟨9, _⟩ => ⟨S8448x1x512, .f32⟩
  | .hbm, ⟨10, _⟩ => ⟨S8448x4x512, .f32⟩
  | .hbm, ⟨11, _⟩ => ⟨S1x4x512x2048, .f32⟩
  | .hbm, ⟨12, _⟩ => ⟨S4x512x2048, .f32⟩
  | .hbm, ⟨13, _⟩ => ⟨S4x2048x8448, .f32⟩
  | .hbm, ⟨14, _⟩ => ⟨S8448x4x2048, .f32⟩
  | .hbm, ⟨15, _⟩ => ⟨S8448x4x2048, .f32⟩
  | .hbm, ⟨16, _⟩ => ⟨S8448x4x2048, .f32⟩
  | .hbm, ⟨17, _⟩ => ⟨S_, .f32⟩
  | .hbm, ⟨18, _⟩ => ⟨S8448x2048, .f32⟩
  | .hbm, ⟨19, _⟩ => ⟨S8448x2048, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel5.lean ====
abbrev S8448x2048 : Shape := ⟨2, ![8448, 2048]⟩
abbrev S2x2048x2048 : Shape := ⟨3, ![2, 2048, 2048]⟩
abbrev S2x8x2048 : Shape := ⟨3, ![2, 8, 2048]⟩
abbrev S2x1x2048 : Shape := ⟨3, ![2, 1, 2048]⟩
abbrev S256x2048 : Shape := ⟨2, ![256, 2048]⟩
abbrev S1x2048x1024 : Shape := ⟨3, ![1, 2048, 1024]⟩
abbrev S256x1024 : Shape := ⟨2, ![256, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8448x2048, .f32⟩
  | .hbm, ⟨1, _⟩ => ⟨S2x2048x2048, .f32⟩
  | .hbm, ⟨2, _⟩ => ⟨S8448x2048, .f32⟩
  | .hbm, ⟨3, _⟩ => ⟨S2x8x2048, .f32⟩
  | .hbm, ⟨4, _⟩ => ⟨S8448x2048, .bf16⟩
  | .hbm, ⟨5, _⟩ => ⟨S2x1x2048, .f32⟩
  | .hbm, ⟨6, _⟩ => ⟨S8448x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S256x1024, .f32⟩
  | .local _ .vmem, ⟨9, _⟩ => ⟨S256x1024, .f32⟩
  | .local _ .vmem, ⟨10, _⟩ => ⟨S2048x1024, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  ![v1.toNat, c0_i32_1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8448x2048 : Shape := ⟨2, ![8448, 2048]⟩
abbrev S2x2048x2048 : Shape := ⟨3, ![2, 2048, 2048]⟩
abbrev S2x8x2048 : Shape := ⟨3, ![2, 8, 2048]⟩
abbrev S1x2048x2048 : Shape := ⟨3, ![1, 2048, 2048]⟩
abbrev S2048x2048 : Shape := ⟨2, ![2048, 2048]⟩
abbrev S256x2048 : Shape := ⟨2, ![256, 2048]⟩
abbrev S1x1x2048 : Shape := ⟨3, ![1, 1, 2048]⟩
abbrev S2048 : Shape := ⟨1, ![2048]⟩
abbrev S1x2048 : Shape := ⟨2, ![1, 2048]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048x2048, .f32⟩
  | .hbm, ⟨2, _⟩ => ⟨S8448x2048, .f32⟩
  | .hbm, ⟨3, _⟩ => ⟨S2x8x2048, .f32⟩
  | .hbm, ⟨4, _⟩ => ⟨S1x2048x2048, .f32⟩
  | .hbm, ⟨5, _⟩ => ⟨S2048x2048, .f32⟩
  | .hbm, ⟨6, _⟩ => ⟨S8448x2048, .f32⟩
  | .hbm, ⟨7, _⟩ => ⟨S256x2048, .f32⟩
  | .hbm, ⟨8, _⟩ => ⟨S1x1x2048, .f32⟩
  | .hbm, ⟨9, _⟩ => ⟨S2048, .f32⟩
  | .hbm, ⟨10, _⟩ => ⟨S256x2048, .f32⟩
  | .hbm, ⟨11, _⟩ => ⟨S1x2048, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S8192x2048, .f32⟩
  | .hbm, ⟨16, _⟩ => ⟨S1x1x2048, .f32⟩
  | .hbm, ⟨17, _⟩ => ⟨S2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel6.lean ====
abbrev S8448x2048 : Shape := ⟨2, ![8448, 2048]⟩
abbrev S2x2048 : Shape := ⟨2, ![2, 2048]⟩
abbrev S2x8x2048 : Shape := ⟨3, ![2, 8, 2048]⟩
abbrev S1x2048 : Shape := ⟨2, ![1, 2048]⟩
abbrev S2048 : Shape := ⟨1, ![2048]⟩
abbrev S256x2048 : Shape := ⟨2, ![256, 2048]⟩
abbrev S1x8x2048 : Shape := ⟨3, ![1, 8, 2048]⟩
abbrev S256 : Shape := ⟨1, ![256]⟩
abbrev S256x1 : Shape := ⟨2, ![256, 1]⟩
abbrev S8x2048 : Shape := ⟨2, ![8, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2x2048, .f32⟩
  | .hbm, ⟨2, _⟩ => ⟨S2x8x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x8x2048, .f32⟩
  | .local _ .vmem, ⟨4, _⟩ => ⟨S1x8x2048, .f32⟩
  | .local _ .vmem, ⟨5, _⟩ => ⟨S256x2048, .bf16⟩
  | .local _ .vmem, ⟨6, _⟩ => ⟨S256x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8448x2048 : Shape := ⟨2, ![8448, 2048]⟩
abbrev S2x2048 : Shape := ⟨2, ![2, 2048]⟩
abbrev S2x8x2048 : Shape := ⟨3, ![2, 8, 2048]⟩
abbrev S1x8x2048 : Shape := ⟨3, ![1, 8, 2048]⟩
abbrev S8x2048 : Shape := ⟨2, ![8, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S256x2048 : Shape := ⟨2, ![256, 2048]⟩
abbrev S256 : Shape := ⟨1, ![256]⟩
abbrev S256x1 : Shape := ⟨2, ![256, 1]⟩

abbrev nBuf : Space → Nat
  | .hbm => 73
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048, .f32⟩
  | .hbm, ⟨2, _⟩ => ⟨S2x8x2048, .f32⟩
  | .hbm, ⟨3, _⟩ => ⟨S1x8x2048, .f32⟩
  | .hbm, ⟨4, _⟩ => ⟨S8x2048, .f32⟩
  | .hbm, ⟨5, _⟩ => ⟨S1x8x2048, .f32⟩
  | .hbm, ⟨6, _⟩ => ⟨S8x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S256x2048, .f32⟩
  | .hbm, ⟨40, _⟩ => ⟨S1x2048, .f32⟩
  | .hbm, ⟨41, _⟩ => ⟨S2048, .f32⟩
  | .hbm, ⟨42, _⟩ => ⟨S256x2048, .f32⟩
  | .hbm, ⟨43, _⟩ => ⟨S_, .f32⟩
  | .hbm, ⟨44, _⟩ => ⟨S256, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S_, .f32⟩
  | .hbm, ⟨50, _⟩ => ⟨S256x1, .f32⟩
  | .hbm, ⟨51, _⟩ => ⟨S256x1, .f32⟩
  | .hbm, ⟨52, _⟩ => ⟨S256x1, .f32⟩
  | .hbm, ⟨53, _⟩ => ⟨S256x2048, .f32⟩
  | .hbm, ⟨54, _⟩ => ⟨S256x2048, .f32⟩
  | .hbm, ⟨55, _⟩ => ⟨S1x2048, .f32⟩
  | .hbm, ⟨56, _⟩ => ⟨S256x2048, .f32⟩
  | .hbm, ⟨57, _⟩ => ⟨S256x2048, .f32⟩
  | .hbm, ⟨58, _⟩ => ⟨S1x2048, .f32⟩
  | .hbm, ⟨59, _⟩ => ⟨S2048, .f32⟩
  | .hbm, ⟨60, _⟩ => ⟨S_, .f32⟩
  | .hbm, ⟨61, _⟩ => ⟨S2048, .f32⟩
  | .hbm, ⟨62, _⟩ => ⟨S2048, .f32⟩
  | .hbm, ⟨63, _⟩ => ⟨S1x2048, .f32⟩
  | .hbm, ⟨64, _⟩ => ⟨S256x2048, .f32⟩
  | .hbm, ⟨65, _⟩ => ⟨S256x2048, .f32⟩
  | .hbm, ⟨66, _⟩ => ⟨S1x2048, .f32⟩
  | .hbm, ⟨67, _⟩ => ⟨S2048, .f32⟩
  | .hbm, ⟨68, _⟩ => ⟨S1x2048, .f32⟩
  | .hbm, ⟨69, _⟩ => ⟨S256x2048, .f32⟩
  | .hbm, ⟨70, _⟩ => ⟨S256x2048, .f32⟩
  | .hbm, ⟨71, _⟩ => ⟨S8448x2048, .f32⟩
  | .hbm, ⟨72, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩

abbrev nD : Nat := 1
abbrev τ : Topo := Topo.v7x

variable {F : FTy → Type} [FloatOps F]
-- ==== Kernel7.lean ====
abbrev S8448x2048 : Shape := ⟨2, ![8448, 2048]⟩
abbrev S2x2048 : Shape := ⟨2, ![2, 2048]⟩
abbrev S2x8x2048 : Shape := ⟨3, ![2, 8, 2048]⟩
abbrev S2048x64 : Shape := ⟨2, ![2048, 64]⟩
abbrev S1x2048 : Shape := ⟨2, ![1, 2048]⟩
abbrev S2048 : Shape := ⟨1, ![2048]⟩
abbrev S64x2048 : Shape := ⟨2, ![64, 2048]⟩
abbrev S64x8448 : Shape := ⟨2, ![64, 8448]⟩
abbrev S256x2048 : Shape := ⟨2, ![256, 2048]⟩
abbrev S1x8x2048 : Shape := ⟨3, ![1, 8, 2048]⟩
abbrev S64x256 : Shape := ⟨2, ![64, 256]⟩
abbrev S256 : Shape := ⟨1, ![256]⟩
abbrev S256x1 : Shape := ⟨2, ![256, 1]⟩
abbrev S8x2048 : Shape := ⟨2, ![8, 2048]⟩

abbrev nBuf : Space → Nat
  | .hbm => 10
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S2x2048, .f32⟩
  | .hbm, ⟨2, _⟩ => ⟨S2x8x2048, .f32⟩
  | .hbm, ⟨3, _⟩ => ⟨S2048x64, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S64x2048, .f32⟩
  | .hbm, ⟨8, _⟩ => ⟨S8448x2048, .f32⟩
  | .hbm, ⟨9, _⟩ => ⟨S64x8448, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x8x2048, .f32⟩
  | .local _ .vmem, ⟨4, _⟩ => ⟨S1x8x2048, .f32⟩
  | .local _ .vmem, ⟨5, _⟩ => ⟨S64x2048, .f32⟩
  | .local _ .vmem, ⟨6, _⟩ => ⟨S256x2048, .f32⟩
  | .local _ .vmem, ⟨7, _⟩ => ⟨S256x2048, .f32⟩
  | .local _ .vmem, ⟨8, _⟩ => ⟨S64x256, .f32⟩
  | .local _ .vmem, ⟨9, _⟩ => ⟨S64x256, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8448x2048 : Shape := ⟨2, ![8448, 2048]⟩
abbrev S2x2048 : Shape := ⟨2, ![2, 2048]⟩
abbrev S2x8x2048 : Shape := ⟨3, ![2, 8, 2048]⟩
abbrev S2048x64 : Shape := ⟨2, ![2048, 64]⟩
abbrev S1x8x2048 : Shape := ⟨3, ![1, 8, 2048]⟩
abbrev S8x2048 : Shape := ⟨2, ![8, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S256x2048 : Shape := ⟨2, ![256, 2048]⟩
abbrev S256 : Shape := ⟨1, ![256]⟩
abbrev S256x1 : Shape := ⟨2, ![256, 1]⟩
abbrev S8448x64 : Shape := ⟨2, ![8448, 64]⟩
abbrev S64x8448 : Shape := ⟨2, ![64, 8448]⟩

abbrev nBuf : Space → Nat
  | .hbm => 75
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048, .f32⟩
  | .hbm, ⟨2, _⟩ => ⟨S2x8x2048, .f32⟩
  | .hbm, ⟨3, _⟩ => ⟨S2048x64, .f32⟩
  | .hbm, ⟨4, _⟩ => ⟨S1x8x2048, .f32⟩
  | .hbm, ⟨5, _⟩ => ⟨S8x2048, .f32⟩
  | .hbm, ⟨6, _⟩ => ⟨S1x8x2048, .f32⟩
  | .hbm, ⟨7, _⟩ => ⟨S8x2048, .f32⟩
  | .hbm, ⟨8, _⟩ => ⟨S8192x2048, .f32⟩
  | .hbm, ⟨9, _⟩ => ⟨S1x2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S256x2048, .f32⟩
  | .hbm, ⟨41, _⟩ => ⟨S1x2048, .f32⟩
  | .hbm, ⟨42, _⟩ => ⟨S2048, .f32⟩
  | .hbm, ⟨43, _⟩ => ⟨S256x2048, .f32⟩
  | .hbm, ⟨44, _⟩ => ⟨S_, .f32⟩
  | .hbm, ⟨45, _⟩ => ⟨S256, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S_, .f32⟩
  | .hbm, ⟨51, _⟩ => ⟨S256x1, .f32⟩
  | .hbm, ⟨52, _⟩ => ⟨S256x1, .f32⟩
  | .hbm, ⟨53, _⟩ => ⟨S256x1, .f32⟩
  | .hbm, ⟨54, _⟩ => ⟨S256x2048, .f32⟩
  | .hbm, ⟨55, _⟩ => ⟨S256x2048, .f32⟩
  | .hbm, ⟨56, _⟩ => ⟨S1x2048, .f32⟩
  | .hbm, ⟨57, _⟩ => ⟨S256x2048, .f32⟩
  | .hbm, ⟨58, _⟩ => ⟨S256x2048, .f32⟩
  | .hbm, ⟨59, _⟩ => ⟨S1x2048, .f32⟩
  | .hbm, ⟨60, _⟩ => ⟨S2048, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S1x2048, .f32⟩
  | .hbm, ⟨65, _⟩ => ⟨S256x2048, .f32⟩
  | .hbm, ⟨66, _⟩ => ⟨S256x2048, .f32⟩
  | .hbm, ⟨67, _⟩ => ⟨S1x2048, .f32⟩
  | .hbm, ⟨68, _⟩ => ⟨S2048, .f32⟩
  | .hbm, ⟨69, _⟩ => ⟨S1x2048, .f32⟩
  | .hbm, ⟨70, _⟩ => ⟨S256x2048, .f32⟩
  | .hbm, ⟨71, _⟩ => ⟨S256x2048, .f32⟩
  | .hbm, ⟨72, _⟩ => ⟨S8448x2048, .f32⟩
  | .hbm, ⟨73, _⟩ => ⟨S8448x64, .f32⟩
  | .hbm, ⟨74, _⟩ => ⟨S64x8448, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩

abbrev nD : Nat := 1
abbrev τ : Topo := Topo.v7x

variable {F : FTy → Type} [FloatOps F]
-- ==== Kernel8.lean ====
abbrev S8448x2048 : Shape := ⟨2, ![8448, 2048]⟩
abbrev S2048 : Shape := ⟨1, ![2048]⟩
abbrev S8192x2048 : Shape := ⟨2, ![8192, 2048]⟩
abbrev S1x2048 : Shape := ⟨2, ![1, 2048]⟩
abbrev S_ : Shape := ⟨0, ![]⟩
abbrev S2x8x2048 : Shape := ⟨3, ![2, 8, 2048]⟩
abbrev S256x2048 : Shape := ⟨2, ![256, 2048]⟩
abbrev S1x8x2048 : Shape := ⟨3, ![1, 8, 2048]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S_, .f32⟩
  | .hbm, ⟨5, _⟩ => ⟨S2x8x2048, .f32⟩
  | .hbm, ⟨6, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x8x2048, .f32⟩
  | .local _ .vmem, ⟨4, _⟩ => ⟨S1x8x2048, .f32⟩
  | .local _ .vmem, ⟨5, _⟩ => ⟨S256x2048, .f32⟩
  | .local _ .vmem, ⟨6, _⟩ => ⟨S256x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let v0 : BitVec 1 := Scalar.cmpi .slt arg0 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8448x2048 : Shape := ⟨2, ![8448, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S8448x512 : Shape := ⟨2, ![8448, 512]⟩
abbrev S8448x6144 : Shape := ⟨2, ![8448, 6144]⟩
abbrev S256x512 : Shape := ⟨2, ![256, 512]⟩

abbrev nBuf : Space → Nat
  | .hbm => 4
  | .vmem => 8
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x6144, .f32⟩
  | .hbm, ⟨3, _⟩ => ⟨S8448x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8448x512 : Shape := ⟨2, ![8448, 512]⟩
abbrev S8448x6144 : Shape := ⟨2, ![8448, 6144]⟩
abbrev S8448x12x512 : Shape := ⟨3, ![8448, 12, 512]⟩
abbrev S8448x1x512 : Shape := ⟨3, ![8448, 1, 512]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x6144, .f32⟩
  | .hbm, ⟨3, _⟩ => ⟨S8448x12x512, .f32⟩
  | .hbm, ⟨4, _⟩ => ⟨S8448x1x512, .f32⟩
  | .hbm, ⟨5, _⟩ => ⟨S8448x512, .f32⟩
  | .hbm, ⟨6, _⟩ => ⟨S8448x512, .f32⟩
  | .hbm, ⟨7, _⟩ => ⟨S8448x512, .f32⟩
  | .hbm, ⟨8, _⟩ => ⟨S_, .f32⟩
  | .hbm, ⟨9, _⟩ => ⟨S8448x512, .f32⟩
  | .hbm, ⟨10, _⟩ => ⟨S8448x512, .f32⟩
  | .hbm, ⟨11, _⟩ => ⟨S8448x512, .f32⟩
  | .hbm, ⟨12, _⟩ => ⟨S_, .f32⟩
  | .hbm, ⟨13, _⟩ => ⟨S8448x512, .f32⟩
  | .hbm, ⟨14, _⟩ => ⟨S8448x512, .f32⟩
  | .hbm, ⟨15, _⟩ => ⟨S8448x512, .f32⟩
  | .hbm, ⟨16, _⟩ => ⟨S_, .f32⟩
  | .hbm, ⟨17, _⟩ => ⟨S8448x512, .f32⟩
  | .hbm, ⟨18, _⟩ => ⟨S8448x512, .f32⟩
  | .hbm, ⟨19, _⟩ => ⟨S_, .f32⟩
  | .hbm, ⟨20, _⟩ => ⟨S8448x512, .f32⟩
  | .hbm, ⟨21, _⟩ => ⟨S8448x512, .f32⟩
  | .hbm, ⟨22, _⟩ => ⟨S8448x512, .f32⟩
  | .hbm, ⟨23, _⟩ => ⟨S8448x512, .f32⟩
  | .hbm, ⟨24, _⟩ => ⟨S8448x512, .f32⟩
  | .hbm, ⟨25, _⟩ => ⟨S8448x512, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel10.lean ====
abbrev S8448x2048 : Shape := ⟨2, ![8448, 2048]⟩
abbrev S16896x2048 : Shape := ⟨2, ![16896, 2048]⟩
abbrev S8x8448 : Shape := ⟨2, ![8, 8448]⟩
abbrev S2x8x2048 : Shape := ⟨3, ![2, 8, 2048]⟩
abbrev S8448x8 : Shape := ⟨2, ![8448, 8]⟩
abbrev S256x2048 : Shape := ⟨2, ![256, 2048]⟩
abbrev S256x8 : Shape := ⟨2, ![256, 8]⟩
abbrev S1x8x2048 : Shape := ⟨3, ![1, 8, 2048]⟩
abbrev S256x1 : Shape := ⟨2, ![256, 1]⟩
abbrev S1x1x2048 : Shape := ⟨3, ![1, 1, 2048]⟩
abbrev S1x2048 : Shape := ⟨2, ![1, 2048]⟩

abbrev nBuf : Space → Nat
  | .hbm => 8
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S16896x2048, .f32⟩
  | .hbm, ⟨2, _⟩ => ⟨S8x8448, .f32⟩
  | .hbm, ⟨3, _⟩ => ⟨S2x8x2048, .f32⟩
  | .hbm, ⟨4, _⟩ => ⟨S16896x2048, .bf16⟩
  | .hbm, ⟨5, _⟩ => ⟨S16896x2048, .bf16⟩
  | .hbm, ⟨6, _⟩ => ⟨S8448x8, .f32⟩
  | .hbm, ⟨7, _⟩ => ⟨S8448x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x8, .f32⟩
  | .local _ .vmem, ⟨7, _⟩ => ⟨S256x8, .f32⟩
  | .local _ .vmem, ⟨8, _⟩ => ⟨S1x8x2048, .f32⟩
  | .local _ .vmem, ⟨9, _⟩ => ⟨S1x8x2048, .f32⟩
  | .local _ .vmem, ⟨10, _⟩ => ⟨S256x2048, .f32⟩
  | .local _ .vmem, ⟨11, _⟩ => ⟨S256x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c33_i32 : BitVec 32 := 33#32
  let v0 : BitVec 32 := Scalar.addi arg0 c33_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8448x2048 : Shape := ⟨2, ![8448, 2048]⟩
abbrev S16896x2048 : Shape := ⟨2, ![16896, 2048]⟩
abbrev S8x8448 : Shape := ⟨2, ![8, 8448]⟩
abbrev S2x8x2048 : Shape := ⟨3, ![2, 8, 2048]⟩
abbrev S2x8448x2048 : Shape := ⟨3, ![2, 8448, 2048]⟩
abbrev S2x8448 : Shape := ⟨2, ![2, 8448]⟩
abbrev S2x8448x1 : Shape := ⟨3, ![2, 8448, 1]⟩
abbrev S_ : Shape := ⟨0, ![]⟩
abbrev S256x2048 : Shape := ⟨2, ![256, 2048]⟩
abbrev S1x1x2048 : Shape := ⟨3, ![1, 1, 2048]⟩
abbrev S2048 : Shape := ⟨1, ![2048]⟩
abbrev S1x2048 : Shape := ⟨2, ![1, 2048]⟩
abbrev S8192x2048 : Shape := ⟨2, ![8192, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S16896x2048, .f32⟩
  | .hbm, ⟨2, _⟩ => ⟨S8x8448, .f32⟩
  | .hbm, ⟨3, _⟩ => ⟨S2x8x2048, .f32⟩
  | .hbm, ⟨4, _⟩ => ⟨S2x8448x2048, .f32⟩
  | .hbm, ⟨5, _⟩ => ⟨S2x8448, .f32⟩
  | .hbm, ⟨6, _⟩ => ⟨S2x8448x1, .f32⟩
  | .hbm, ⟨7, _⟩ => ⟨S2x8448x2048, .f32⟩
  | .hbm, ⟨8, _⟩ => ⟨S2x8448x2048, .f32⟩
  | .hbm, ⟨9, _⟩ => ⟨S_, .f32⟩
  | .hbm, ⟨10, _⟩ => ⟨S8448x2048, .f32⟩
  | .hbm, ⟨11, _⟩ => ⟨S256x2048, .f32⟩
  | .hbm, ⟨12, _⟩ => ⟨S1x1x2048, .f32⟩
  | .hbm, ⟨13, _⟩ => ⟨S2048, .f32⟩
  | .hbm, ⟨14, _⟩ => ⟨S256x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S8192x2048, .f32⟩
  | .hbm, ⟨20, _⟩ => ⟨S1x1x2048, .f32⟩
  | .hbm, ⟨21, _⟩ => ⟨S2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Kernel11.lean ====
abbrev S1x2048 : Shape := ⟨2, ![1, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S1 : Shape := ⟨1, ![1]⟩
abbrev S1x12288 : Shape := ⟨2, ![1, 12288]⟩
abbrev S12288 : Shape := ⟨1, ![12288]⟩
abbrev S8x12288 : Shape := ⟨2, ![8, 12288]⟩
abbrev S1x2048x1024 : Shape := ⟨3, ![1, 2048, 1024]⟩
abbrev S1x1024 : Shape := ⟨2, ![1, 1024]⟩
abbrev S8x1024 : Shape := ⟨2, ![8, 1024]⟩
abbrev S2048x1024 : Shape := ⟨2, ![2048, 1024]⟩

abbrev nBuf : Space → Nat
  | .hbm => 35
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S_, .f32⟩
  | .hbm, ⟨5, _⟩ => ⟨S8x2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .i32⟩
  | .hbm, ⟨16, _⟩ => ⟨S1, .i32⟩
  | .hbm, ⟨17, _⟩ => ⟨S8x2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S_, .i32⟩
  | .hbm, ⟨29, _⟩ => ⟨S1, .i32⟩
  | .hbm, ⟨30, _⟩ => ⟨S8x2048, .f32⟩
  | .hbm, ⟨31, _⟩ => ⟨S1x12288, .f32⟩
  | .hbm, ⟨32, _⟩ => ⟨S12288, .f32⟩
  | .hbm, ⟨33, _⟩ => ⟨S1x12288, .f32⟩
  | .hbm, ⟨34, _⟩ => ⟨S8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S2048x1024, .bf16⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S1x2048 : Shape := ⟨2, ![1, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S6x12288 : Shape := ⟨2, ![6, 12288]⟩
abbrev S8x12288 : Shape := ⟨2, ![8, 12288]⟩

abbrev nBuf : Space → Nat
  | .hbm => 40
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048x12288, .f32⟩
  | .hbm, ⟨14, _⟩ => ⟨S2048x12288, .f32⟩
  | .hbm, ⟨15, _⟩ => ⟨S1x12288, .f32⟩
  | .hbm, ⟨16, _⟩ => ⟨S1x12288, .f32⟩
  | .hbm, ⟨17, _⟩ => ⟨S12288, .f32⟩
  | .hbm, ⟨18, _⟩ => ⟨S1x12288, .f32⟩
  | .hbm, ⟨19, _⟩ => ⟨S1x12288, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S1x2048x12288, .f32⟩
  | .hbm, ⟨30, _⟩ => ⟨S2048x12288, .f32⟩
  | .hbm, ⟨31, _⟩ => ⟨S12288, .f32⟩
  | .hbm, ⟨32, _⟩ => ⟨S1x12288, .f32⟩
  | .hbm, ⟨33, _⟩ => ⟨S12288, .f32⟩
  | .hbm, ⟨34, _⟩ => ⟨S12288, .f32⟩
  | .hbm, ⟨35, _⟩ => ⟨S1x12288, .f32⟩
  | .hbm, ⟨36, _⟩ => ⟨S1x12288, .f32⟩
  | .hbm, ⟨37, _⟩ => ⟨S12288, .f32⟩
  | .hbm, ⟨38, _⟩ => ⟨S6x12288, .f32⟩
  | .hbm, ⟨39, _⟩ => ⟨S8x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Kernel12.lean ====
abbrev S8448x512 : Shape := ⟨2, ![8448, 512]⟩
abbrev S8448x6144 : Shape := ⟨2, ![8448, 6144]⟩
abbrev S128 : Shape := ⟨1, ![128]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x6144, .f32⟩
  | .hbm, ⟨3, _⟩ => ⟨S128, .f32⟩
  | .hbm, ⟨4, _⟩ => ⟨S1x128, .f32⟩
  | .hbm, ⟨5, _⟩ => ⟨S8448x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x128, .f32⟩
  | .local _ .vmem, ⟨7, _⟩ => ⟨S256x512, .bf16⟩
  | .local _ .vmem, ⟨8, _⟩ => ⟨S256x512, .bf16⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S8448x512 : Shape := ⟨2, ![8448, 512]⟩
abbrev S8448x6144 : Shape := ⟨2, ![8448, 6144]⟩
abbrev S128 : Shape := ⟨1, ![128]⟩
abbrev S8448x4x128 : Shape := ⟨3, ![8448, 4, 128]⟩
abbrev S_ : Shape := ⟨0, ![]⟩
abbrev S8448x4 : Shape := ⟨2, ![8448, 4]⟩
abbrev S8448x4x1 : Shape := ⟨3, ![8448, 4, 1]⟩
abbrev S1x1x128 : Shape := ⟨3, ![1, 1, 128]⟩
abbrev S8448x12x512 : Shape := ⟨3, ![8448, 12, 512]⟩
abbrev S8448x1x512 : Shape := ⟨3, ![8448, 1, 512]⟩

abbrev nBuf : Space → Nat
  | .hbm => 37
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x6144, .f32⟩
  | .hbm, ⟨3, _⟩ => ⟨S128, .f32⟩
  | .hbm, ⟨4, _⟩ => ⟨S8448x512, .f32⟩
  | .hbm, ⟨5, _⟩ => ⟨S8448x4x128, .f32⟩
  | .hbm, ⟨6, _⟩ => ⟨S8448x4x128, .f32⟩
  | .hbm, ⟨7, _⟩ => ⟨S_, .f32⟩
  | .hbm, ⟨8, _⟩ => ⟨S8448x4, .f32⟩
  | .hbm, ⟨9, _⟩ => ⟨S8448x4x1, .f32⟩
  | .hbm, ⟨10, _⟩ => ⟨S_, .f32⟩
  | .hbm, ⟨11, _⟩ => ⟨S8448x4x1, .f32⟩
  | .hbm, ⟨12, _⟩ => ⟨S8448x4x1, .f32⟩
  | .hbm, ⟨13, _⟩ => ⟨S_, .f32⟩
  | .hbm, ⟨14, _⟩ => ⟨S8448x4x1, .f32⟩
  | .hbm, ⟨15, _⟩ => ⟨S8448x4x1, .f32⟩
  | .hbm, ⟨16, _⟩ => ⟨S8448x4x1, .f32⟩
  | .hbm, ⟨17, _⟩ => ⟨S8448x4x128, .f32⟩
  | .hbm, ⟨18, _⟩ => ⟨S8448x4x128, .f32⟩
  | .hbm, ⟨19, _⟩ => ⟨S1x1x128, .f32⟩
  | .hbm, ⟨20, _⟩ => ⟨S8448x4x128, .f32⟩
  | .hbm, ⟨21, _⟩ => ⟨S8448x4x128, .f32⟩
  | .hbm, ⟨22, _⟩ => ⟨S8448x512, .f32⟩
  | .hbm, ⟨23, _⟩ => ⟨S8448x12x512, .f32⟩
  | .hbm, ⟨24, _⟩ => ⟨S8448x1x512, .f32⟩
  | .hbm, ⟨25, _⟩ => ⟨S8448x512, .f32⟩
  | .hbm, ⟨26, _⟩ => ⟨S8448x512, .f32⟩
  | .hbm, ⟨27, _⟩ => ⟨S8448x512, .f32⟩
  | .hbm, ⟨28, _⟩ => ⟨S_, .f32⟩
  | .hbm, ⟨29, _⟩ => ⟨S8448x512, .f32⟩
  | .hbm, ⟨30, _⟩ => ⟨S8448x512, .f32⟩
  | .hbm, ⟨31, _⟩ => ⟨S_, .f32⟩
  | .hbm, ⟨32, _⟩ => ⟨S8448x512, .f32⟩
  | .hbm, ⟨33, _⟩ => ⟨S8448x512, .f32⟩
  | .hbm, ⟨34, _⟩ => ⟨S8448x512, .f32⟩
  | .hbm, ⟨35, _⟩ => ⟨S8448x512, .f32⟩
  | .hbm, ⟨36, _⟩ => ⟨S8448x512, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel13.lean ====
abbrev S8448x2048 : Shape := ⟨2, ![8448, 2048]⟩
abbrev S2x2048x14336 : Shape := ⟨3, ![2, 2048, 14336]⟩
abbrev S8448x6144 : Shape := ⟨2, ![8448, 6144]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2x2048x14336, .f32⟩
  | .hbm, ⟨2, _⟩ => ⟨S8448x2048, .bf16⟩
  | .hbm, ⟨3, _⟩ => ⟨S8448x6144, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1408x1024, .f32⟩
  | .local _ .vmem, ⟨5, _⟩ => ⟨S1408x1024, .f32⟩
  | .local _ .vmem, ⟨6, _⟩ => ⟨S2048x1024, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8448x2048 : Shape := ⟨2, ![8448, 2048]⟩
abbrev S2x2048x14336 : Shape := ⟨3, ![2, 2048, 14336]⟩
abbrev S1x2048x14336 : Shape := ⟨3, ![1, 2048, 14336]⟩
abbrev S2048x14336 : Shape := ⟨2, ![2048, 14336]⟩
abbrev S8448x14336 : Shape := ⟨2, ![8448, 14336]⟩
abbrev S8448x6144 : Shape := ⟨2, ![8448, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048x14336, .f32⟩
  | .hbm, ⟨2, _⟩ => ⟨S1x2048x14336, .f32⟩
  | .hbm, ⟨3, _⟩ => ⟨S2048x14336, .f32⟩
  | .hbm, ⟨4, _⟩ => ⟨S8448x14336, .f32⟩
  | .hbm, ⟨5, _⟩ => ⟨S8448x6144, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8448x2048 : Shape := ⟨2, ![8448, 2048]⟩
abbrev S2x2048x14336 : Shape := ⟨3, ![2, 2048, 14336]⟩
abbrev S8448x8192 : Shape := ⟨2, ![8448, 8192]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2x2048x14336, .f32⟩
  | .hbm, ⟨2, _⟩ => ⟨S8448x2048, .bf16⟩
  | .hbm, ⟨3, _⟩ => ⟨S8448x8192, .bf16⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S2048x1024, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8448x2048 : Shape := ⟨2, ![8448, 2048]⟩
abbrev S2x2048x14336 : Shape := ⟨3, ![2, 2048, 14336]⟩
abbrev S1x2048x14336 : Shape := ⟨3, ![1, 2048, 14336]⟩
abbrev S2048x14336 : Shape := ⟨2, ![2048, 14336]⟩
abbrev S8448x14336 : Shape := ⟨2, ![8448, 14336]⟩
abbrev S8448x8192 : Shape := ⟨2, ![8448, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048x14336, .f32⟩
  | .hbm, ⟨2, _⟩ => ⟨S1x2048x14336, .f32⟩
  | .hbm, ⟨3, _⟩ => ⟨S2048x14336, .f32⟩
  | .hbm, ⟨4, _⟩ => ⟨S8448x14336, .f32⟩
  | .hbm, ⟨5, _⟩ => ⟨S8448x8192, .f32⟩
  | .hbm, ⟨6, _⟩ => ⟨S8448x8192, .f32⟩
  | .hbm, ⟨7, _⟩ => ⟨S8448x8192, .f32⟩
  | .hbm, ⟨8, _⟩ => ⟨S_, .f32⟩
  | .hbm, ⟨9, _⟩ => ⟨S8448x8192, .f32⟩
  | .hbm, ⟨10, _⟩ => ⟨S8448x8192, .f32⟩
  | .hbm, ⟨11, _⟩ => ⟨S_, .f32⟩
  | .hbm, ⟨12, _⟩ => ⟨S8448x8192, .f32⟩
  | .hbm, ⟨13, _⟩ => ⟨S8448x8192, .f32⟩
  | .hbm, ⟨14, _⟩ => ⟨S8448x8192, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel15.lean ====
abbrev S8448x512 : Shape := ⟨2, ![8448, 512]⟩
abbrev S8448x8192 : Shape := ⟨2, ![8448, 8192]⟩
abbrev S2x4x512x2048 : Shape := ⟨4, ![2, 4, 512, 2048]⟩
abbrev S1x4x512x2048 : Shape := ⟨4, ![1, 4, 512, 2048]⟩
abbrev S4x512x2048 : Shape := ⟨3, ![4, 512, 2048]⟩
abbrev S8448x2048 : Shape := ⟨2, ![8448, 2048]⟩
abbrev S256x512 : Shape := ⟨2, ![256, 512]⟩
abbrev S256x8192 : Shape := ⟨2, ![256, 8192]⟩
abbrev S256x2048 : Shape := ⟨2, ![256, 2048]⟩
abbrev S1x512x2048 : Shape := ⟨3, ![1, 512, 2048]⟩
abbrev S512x2048 : Shape := ⟨2, ![512, 2048]⟩

abbrev nBuf : Space → Nat
  | .hbm => 15
  | .vmem => 13
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x8192, .f32⟩
  | .hbm, ⟨5, _⟩ => ⟨S2x4x512x2048, .f32⟩
  | .hbm, ⟨6, _⟩ => ⟨S8448x512, .bf16⟩
  | .hbm, ⟨7, _⟩ => ⟨S8448x512, .bf16⟩
  | .hbm, ⟨8, _⟩ => ⟨S8448x512, .bf16⟩
  | .hbm, ⟨9, _⟩ => ⟨S8448x512, .bf16⟩
  | .hbm, ⟨10, _⟩ => ⟨S8448x8192, .bf16⟩
  | .hbm, ⟨11, _⟩ => ⟨S1x4x512x2048, .f32⟩
  | .hbm, ⟨12, _⟩ => ⟨S4x512x2048, .f32⟩
  | .hbm, ⟨13, _⟩ => ⟨S4x512x2048, .bf16⟩
  | .hbm, ⟨14, _⟩ => ⟨S8448x2048, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x8192, .bf16⟩
  | .local _ .vmem, ⟨9, _⟩ => ⟨S256x8192, .bf16⟩
  | .local _ .vmem, ⟨10, _⟩ => ⟨S4x512x2048, .bf16⟩
  | .local _ .vmem, ⟨11, _⟩ => ⟨S256x2048, .bf16⟩
  | .local _ .vmem, ⟨12, _⟩ => ⟨S256x2048, .bf16⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S8448x512 : Shape := ⟨2, ![8448, 512]⟩
abbrev S8448x8192 : Shape := ⟨2, ![8448, 8192]⟩
abbrev S2x4x512x2048 : Shape := ⟨4, ![2, 4, 512, 2048]⟩
abbrev S8448x1x512 : Shape := ⟨3, ![8448, 1, 512]⟩
abbrev S8448x4x512 : Shape := ⟨3, ![8448, 4, 512]⟩
abbrev S1x4x512x2048 : Shape := ⟨4, ![1, 4, 512, 2048]⟩
abbrev S4x512x2048 : Shape := ⟨3, ![4, 512, 2048]⟩
abbrev S4x2048x8448 : Shape := ⟨3, ![4, 2048, 8448]⟩
abbrev S8448x4x2048 : Shape := ⟨3, ![8448, 4, 2048]⟩
abbrev S_ : Shape := ⟨0, ![]⟩
abbrev S8448x2048 : Shape := ⟨2, ![8448, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x8192, .f32⟩
  | .hbm, ⟨5, _⟩ => ⟨S2x4x512x2048, .f32⟩
  | .hbm, ⟨6, _⟩ => ⟨S8448x1x512, .f32⟩
  | .hbm, ⟨7, _⟩ => ⟨S8448x1x512, .f32⟩
  | .hbm, ⟨8, _⟩ => ⟨S8448x1x512, .f32⟩
  | .hbm, ⟨9, _⟩ => ⟨S8448x1x512, .f32⟩
  | .hbm, ⟨10, _⟩ => ⟨S8448x4x512, .f32⟩
  | .hbm, ⟨11, _⟩ => ⟨S1x4x512x2048, .f32⟩
  | .hbm, ⟨12, _⟩ => ⟨S4x512x2048, .f32⟩
  | .hbm, ⟨13, _⟩ => ⟨S4x2048x8448, .f32⟩
  | .hbm, ⟨14, _⟩ => ⟨S8448x4x2048, .f32⟩
  | .hbm, ⟨15, _⟩ => ⟨S8448x4x2048, .f32⟩
  | .hbm, ⟨16, _⟩ => ⟨S8448x4x2048, .f32⟩
  | .hbm, ⟨17, _⟩ => ⟨S_, .f32⟩
  | .hbm, ⟨18, _⟩ => ⟨S8448x2048, .f32⟩
  | .hbm, ⟨19, _⟩ => ⟨S8448x2048, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel16.lean ====
abbrev S8448x2048 : Shape := ⟨2, ![8448, 2048]⟩
abbrev S2x2048x2048 : Shape := ⟨3, ![2, 2048, 2048]⟩
abbrev S2x8x2048 : Shape := ⟨3, ![2, 8, 2048]⟩
abbrev S2x1x2048 : Shape := ⟨3, ![2, 1, 2048]⟩
abbrev S256x2048 : Shape := ⟨2, ![256, 2048]⟩
abbrev S1x2048x1024 : Shape := ⟨3, ![1, 2048, 1024]⟩
abbrev S256x1024 : Shape := ⟨2, ![256, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8448x2048, .f32⟩
  | .hbm, ⟨1, _⟩ => ⟨S2x2048x2048, .f32⟩
  | .hbm, ⟨2, _⟩ => ⟨S8448x2048, .f32⟩
  | .hbm, ⟨3, _⟩ => ⟨S2x8x2048, .f32⟩
  | .hbm, ⟨4, _⟩ => ⟨S8448x2048, .bf16⟩
  | .hbm, ⟨5, _⟩ => ⟨S2x1x2048, .f32⟩
  | .hbm, ⟨6, _⟩ => ⟨S8448x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S256x1024, .f32⟩
  | .local _ .vmem, ⟨9, _⟩ => ⟨S256x1024, .f32⟩
  | .local _ .vmem, ⟨10, _⟩ => ⟨S2048x1024, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  ![v1.toNat, c0_i32_1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference16Ideal.lean ====
abbrev S8448x2048 : Shape := ⟨2, ![8448, 2048]⟩
abbrev S2x2048x2048 : Shape := ⟨3, ![2, 2048, 2048]⟩
abbrev S2x8x2048 : Shape := ⟨3, ![2, 8, 2048]⟩
abbrev S1x2048x2048 : Shape := ⟨3, ![1, 2048, 2048]⟩
abbrev S2048x2048 : Shape := ⟨2, ![2048, 2048]⟩
abbrev S256x2048 : Shape := ⟨2, ![256, 2048]⟩
abbrev S1x1x2048 : Shape := ⟨3, ![1, 1, 2048]⟩
abbrev S2048 : Shape := ⟨1, ![2048]⟩
abbrev S1x2048 : Shape := ⟨2, ![1, 2048]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048x2048, .f32⟩
  | .hbm, ⟨2, _⟩ => ⟨S8448x2048, .f32⟩
  | .hbm, ⟨3, _⟩ => ⟨S2x8x2048, .f32⟩
  | .hbm, ⟨4, _⟩ => ⟨S1x2048x2048, .f32⟩
  | .hbm, ⟨5, _⟩ => ⟨S2048x2048, .f32⟩
  | .hbm, ⟨6, _⟩ => ⟨S8448x2048, .f32⟩
  | .hbm, ⟨7, _⟩ => ⟨S256x2048, .f32⟩
  | .hbm, ⟨8, _⟩ => ⟨S1x1x2048, .f32⟩
  | .hbm, ⟨9, _⟩ => ⟨S2048, .f32⟩
  | .hbm, ⟨10, _⟩ => ⟨S256x2048, .f32⟩
  | .hbm, ⟨11, _⟩ => ⟨S1x2048, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S8192x2048, .f32⟩
  | .hbm, ⟨16, _⟩ => ⟨S1x1x2048, .f32⟩
  | .hbm, ⟨17, _⟩ => ⟨S2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Proof.Recurrence.lean ====
/-
  The first-order linear recurrence `h (n + 1) = a n * h n + b n` on one lane, over any float values: its unrolling
  across a split of the steps, and that it depends only on the coefficients of the steps it takes.
-/
module

public import Idealize.ShloMosaic.PureOps

@[expose] public section

namespace Cert.Lru

open Idealize.ShloMosaic

variable {F : FTy → Type} [FloatOps F]

/-- `n` steps of `h ← a · h + b` from `h0`. -/
def hrec (h0 : F .f32) (a b : ℕ → F .f32) : ℕ → F .f32
  | 0 => h0
  | n + 1 => FloatOps.addf (FloatOps.mulf (a n) (hrec h0 a b n)) (b n)

/-- `m` steps, then `n` more with the coefficients shifted, are `m + n` steps. -/
theorem hrec_add (h0 : F .f32) (a b : ℕ → F .f32) (m : ℕ) :
    ∀ n, hrec (hrec h0 a b m) (fun k => a (m + k)) (fun k => b (m + k)) n = hrec h0 a b (m + n)
  | 0 => rfl
  | n + 1 => by
    show FloatOps.addf (FloatOps.mulf (a (m + n)) (hrec (hrec h0 a b m) (fun k => a (m + k)) (fun k => b (m + k)) n)) (b (m + n))
      = FloatOps.addf (FloatOps.mulf (a (m + n)) (hrec h0 a b (m + n))) (b (m + n))
    rw [hrec_add h0 a b m n]

/-- The coefficients at the steps taken determine the state. -/
theorem hrec_congr {h0 h0' : F .f32} {a b a' b' : ℕ → F .f32} (h : h0 = h0') :
    ∀ n, (∀ k < n, a k = a' k) → (∀ k < n, b k = b' k) → hrec h0 a b n = hrec h0' a' b' n
  | 0, _, _ => h
  | n + 1, ha, hb => by
    show FloatOps.addf (FloatOps.mulf (a n) _) (b n) = FloatOps.addf (FloatOps.mulf (a' n) _) (b' n)
    rw [ha n (Nat.lt_succ_self n), hb n (Nat.lt_succ_self n),
      hrec_congr h n (fun k hk => ha k (Nat.lt_succ_of_lt hk)) (fun k hk => hb k (Nat.lt_succ_of_lt hk))]

/-- The row the reverse direction takes at step `n`: the context's 256 rows last to first, then the latent rows last
    to first. It is its own inverse. -/
def turn (n : ℕ) : ℕ := if n < 256 then 255 - n else 8703 - n

theorem turn_turn {n : ℕ} (h : n < 8448) : turn (turn n) = n := by
  unfold turn; split_ifs <;> omega

theorem turn_lt {n : ℕ} (h : n < 8448) : turn n < 8448 := by
  unfold turn; split_ifs <;> omega

end Cert.Lru
-- ==== Proof.ScanBody.lean ====
/-
  The recurrence kernel's body on one block of 256 rows: after it the two output blocks hold the states after each
  row, forward from the first row and backward from the last, and the two carried rows hold the last states.
-/
module

public import proofs.«01_k».proof.Proof.Gen.KernelIdeal.Loops
public import proofs.«01_k».proof.Proof.Gen.KernelIdeal.Frame
public import proofs.«01_k».proof.Proof.Recurrence
public import Idealize.ShloMosaic.Lib.WritesUnit
public import Idealize.ShloMosaic.Lib.ValueIdxCore
public import Idealize.ShloMosaic.Lib.Pipeline.Value

@[expose] public section

set_option maxRecDepth 16384

noncomputable section

namespace Cert.KernelIdeal.Scan

open Cert.KernelIdeal Cert.KernelIdeal.Gen Cert.Lru
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The states over one block -/

/-- Row `n` of a block, column `c`. -/
abbrev cell (x : Vec F S256x512 .f32) (n : ℕ) (c : Fin 512) : F .f32 := x (ix2 (Fin.ofNat 256 n) c)

/-- The forward states: after `k` rows of the block, from the carried row `s`. -/
def stF (a b : Vec F S256x512 .f32) (s : Vec F S1x512 .f32) (k : ℕ) : Vec F S1x512 .f32 :=
  fun j => hrec (s j) (fun n => cell a n (j 1)) (fun n => cell b n (j 1)) k

/-- The backward states: after the last `k` rows of the block, last to first, from the carried row `s`. -/
def stB (a b : Vec F S256x512 .f32) (s : Vec F S1x512 .f32) (k : ℕ) : Vec F S1x512 .f32 :=
  fun j => hrec (s j) (fun n => cell a (255 - n) (j 1)) (fun n => cell b (255 - n) (j 1)) k

theorem trips_eq : k0_t1_loop.trips = 256 := by decide +kernel

theorem off1_eq : ∀ k : Fin k0_t1_loop.trips, k0_off1 k = ![k.val, 0] := by decide +kernel
theorem off2_eq : ∀ k : Fin k0_t1_loop.trips, k0_off2 k = ![255 - k.val, 0] := by decide +kernel

/-- A row loaded from a block is the block's cells on that row. -/
theorem ld_row (x : Vec F S256x512 .f32) (n : ℕ) (hn : n < 256) {off : Fin 2 → ℕ} (hoff : off = ![n, 0])
    (inb : ∀ a, off a + S1x512.size a ≤ S256x512.size a) (j : S1x512.Idx) :
    View.ld x (Rect.unit (s := S256x512) off S1x512.size inb) j = cell x n (j 1) := by
  subst hoff
  show x _ = x _
  congr 1
  funext a
  apply Fin.ext
  have hj : (j 0).val = 0 := by have := (j 0).isLt; simpa using this
  match a with
  | ⟨0, _⟩ => show n + 1 * (j 0).val = n % 256; rw [hj, Nat.mod_eq_of_lt hn]; rfl
  | ⟨1, _⟩ => show 0 + 1 * (j 1).val = (j 1).val; omega

/-- One step of either direction, column by column. -/
theorem pay3_apply (h a b : Vec F S1x512 .f32) (j : S1x512.Idx) : k0_pay3 h a b j = FloatOps.addf (FloatOps.mulf (a j) (h j)) (b j) := rfl
theorem pay4_apply (h a b : Vec F S1x512 .f32) (j : S1x512.Idx) : k0_pay4 h a b j = FloatOps.addf (FloatOps.mulf (a j) (h j)) (b j) := rfl

section Trip

variable (𝒱 : Variants) (c : Dev nD) (bd : Option 𝒱.V) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole)
  (X1 : BufTy.Contents (Elt F) arg1.view.ty) (X2 : BufTy.Contents (Elt F) arg2.view.ty) (X3 : BufTy.Contents (Elt F) arg3.view.ty) (X4 : BufTy.Contents (Elt F) arg4.view.ty)

theorem tripR_eq (k : Fin k0_t1_loop.trips) (acc : Vec F S1x512 .f32 × Vec F S1x512 .f32) :
    tripR_k0_t1 𝒱 c bd i arg1 harg1 arg2 harg2 arg3 harg3 arg4 harg4 arg5 harg5 arg6 harg6 arg7 harg7 arg8 harg8 X1 X2 X3 X4 k acc
      = (k0_pay3 acc.1 (View.ld (arg1.view.read (Elt F) X1) (Rect.unit (s := S256x512) (k0_off1 k) S1x512.size (k0_off1_inb k)))
          (View.ld (arg2.view.read (Elt F) X2) (Rect.unit (s := S256x512) (k0_off1 k) S1x512.size (k0_off1_inb k))),
        k0_pay4 acc.2 (View.ld (arg3.view.read (Elt F) X3) (Rect.unit (s := S256x512) (k0_off2 k) S1x512.size (k0_off2_inb k)))
          (View.ld (arg4.view.read (Elt F) X4) (Rect.unit (s := S256x512) (k0_off2 k) S1x512.size (k0_off2_inb k)))) := by
  unfold tripR_k0_t1 trip_k0_t1
  rfl

theorem tripL_eq (k : Fin k0_t1_loop.trips) (acc : Vec F S1x512 .f32 × Vec F S1x512 .f32) :
    tripL_k0_t1 𝒱 c bd i arg1 harg1 arg2 harg2 arg3 harg3 arg4 harg4 arg5 harg5 arg6 harg6 arg7 harg7 arg8 harg8 X1 X2 X3 X4 k acc
      = ([⟨Rect.unit (s := S256x512) (k0_off1 k) S1x512.size (k0_off1_inb k), (tripR_k0_t1 𝒱 c bd i arg1 harg1 arg2 harg2 arg3 harg3 arg4 harg4 arg5 harg5 arg6 harg6 arg7 harg7 arg8 harg8 X1 X2 X3 X4 k acc).1⟩],
         [⟨Rect.unit (s := S256x512) (k0_off2 k) S1x512.size (k0_off2_inb k), (tripR_k0_t1 𝒱 c bd i arg1 harg1 arg2 harg2 arg3 harg3 arg4 harg4 arg5 harg5 arg6 harg6 arg7 harg7 arg8 harg8 X1 X2 X3 X4 k acc).2⟩]) := by
  unfold tripL_k0_t1 tripR_k0_t1 trip_k0_t1
  rfl

/-- Before trip `k` the carried pair is the two directions' states after `k` steps. -/
theorem st_carried (init : Vec F S1x512 .f32 × Vec F S1x512 .f32) : ∀ k, k ≤ 256 →
    (st_k0_t1 𝒱 c bd i arg1 harg1 arg2 harg2 arg3 harg3 arg4 harg4 arg5 harg5 arg6 harg6 arg7 harg7 arg8 harg8 X1 X2 X3 X4 init k).1 = (stF (arg1.view.read (Elt F) X1) (arg2.view.read (Elt F) X2) init.1 k,
      stB (arg3.view.read (Elt F) X3) (arg4.view.read (Elt F) X4) init.2 k)
  | 0, _ => rfl
  | k + 1, hk => by
    have hk' : k < k0_t1_loop.trips := by rw [trips_eq]; omega
    have e := st_k0_t1_succ 𝒱 c bd i arg1 harg1 arg2 harg2 arg3 harg3 arg4 harg4 arg5 harg5 arg6 harg6 arg7 harg7 arg8 harg8 X1 X2 X3 X4 init ⟨k, hk'⟩
    rw [e]
    dsimp only
    rw [tripR_eq, st_carried init k (by omega)]
    refine Prod.ext (funext fun j => ?_) (funext fun j => ?_)
    · dsimp only
      rw [pay3_apply, ld_row _ k (by omega) (off1_eq _), ld_row _ k (by omega) (off1_eq _)]
      rfl
    · dsimp only
      rw [pay4_apply, ld_row _ (255 - k) (by omega) (off2_eq _), ld_row _ (255 - k) (by omega) (off2_eq _)]
      rfl

/-- Trip `k` puts one row in front of each output's pieces: the state it yields. -/
theorem st_pieces (init : Vec F S1x512 .f32 × Vec F S1x512 .f32) (k : Fin k0_t1_loop.trips) :
    (st_k0_t1 𝒱 c bd i arg1 harg1 arg2 harg2 arg3 harg3 arg4 harg4 arg5 harg5 arg6 harg6 arg7 harg7 arg8 harg8 X1 X2 X3 X4 init (k.val + 1)).2.1 = ⟨Rect.unit (s := S256x512) (k0_off1 k) S1x512.size (k0_off1_inb k), (st_k0_t1 𝒱 c bd i arg1 harg1 arg2 harg2 arg3 harg3 arg4 harg4 arg5 harg5 arg6 harg6 arg7 harg7 arg8 harg8 X1 X2 X3 X4 init (k.val + 1)).1.1⟩ :: (st_k0_t1 𝒱 c bd i arg1 harg1 arg2 harg2 arg3 harg3 arg4 harg4 arg5 harg5 arg6 harg6 arg7 harg7 arg8 harg8 X1 X2 X3 X4 init k.val).2.1
    ∧ (st_k0_t1 𝒱 c bd i arg1 harg1 arg2 harg2 arg3 harg3 arg4 harg4 arg5 harg5 arg6 harg6 arg7 harg7 arg8 harg8 X1 X2 X3 X4 init (k.val + 1)).2.2 = ⟨Rect.unit (s := S256x512) (k0_off2 k) S1x512.size (k0_off2_inb k), (st_k0_t1 𝒱 c bd i arg1 harg1 arg2 harg2 arg3 harg3 arg4 harg4 arg5 harg5 arg6 harg6 arg7 harg7 arg8 harg8 X1 X2 X3 X4 init (k.val + 1)).1.2⟩ :: (st_k0_t1 𝒱 c bd i arg1 harg1 arg2 harg2 arg3 harg3 arg4 harg4 arg5 harg5 arg6 harg6 arg7 harg7 arg8 harg8 X1 X2 X3 X4 init k.val).2.2 := by
  have e := st_k0_t1_succ 𝒱 c bd i arg1 harg1 arg2 harg2 arg3 harg3 arg4 harg4 arg5 harg5 arg6 harg6 arg7 harg7 arg8 harg8 X1 X2 X3 X4 init k
  have l := tripL_eq 𝒱 c bd i arg1 harg1 arg2 harg2 arg3 harg3 arg4 harg4 arg5 harg5 arg6 harg6 arg7 harg7 arg8 harg8 X1 X2 X3 X4 k (st_k0_t1 𝒱 c bd i arg1 harg1 arg2 harg2 arg3 harg3 arg4 harg4 arg5 harg5 arg6 harg6 arg7 harg7 arg8 harg8 X1 X2 X3 X4 init k.val).1
  have ec := congrArg Prod.fst e
  dsimp only at ec
  rw [← ec] at l
  constructor
  · exact (congrArg (fun p => p.2.1) e).trans (congrArg (fun p => p.1 ++ (st_k0_t1 𝒱 c bd i arg1 harg1 arg2 harg2 arg3 harg3 arg4 harg4 arg5 harg5 arg6 harg6 arg7 harg7 arg8 harg8 X1 X2 X3 X4 init k.val).2.1) l)
  · exact (congrArg (fun p => p.2.2) e).trans (congrArg (fun p => p.2 ++ (st_k0_t1 𝒱 c bd i arg1 harg1 arg2 harg2 arg3 harg3 arg4 harg4 arg5 harg5 arg6 harg6 arg7 harg7 arg8 harg8 X1 X2 X3 X4 init k.val).2.2) l)

/-- Before trip `k` the first output block's rows below `k` hold the forward states after each. -/
theorem st_rowsF (init : Vec F S1x512 .f32 × Vec F S1x512 .f32) (G : BufTy.Contents (Elt F) arg5.view.ty) : ∀ k, k ≤ 256 →
    ∀ y : S256x512.Idx, (y 0).val < k → arg5.view.read (Elt F) (arg5.view.writes (Elt F) G (st_k0_t1 𝒱 c bd i arg1 harg1 arg2 harg2 arg3 harg3 arg4 harg4 arg5 harg5 arg6 harg6 arg7 harg7 arg8 harg8 X1 X2 X3 X4 init k).2.1) y
      = stF (arg1.view.read (Elt F) X1) (arg2.view.read (Elt F) X2) init.1 ((y 0).val + 1) (ix2 0 (y 1))
  | 0, _, y, hy => absurd hy (Nat.not_lt_zero _)
  | k + 1, hk, y, hy => by
    have hk' : k < k0_t1_loop.trips := by rw [trips_eq]; omega
    rw [(st_pieces 𝒱 c bd i arg1 harg1 arg2 harg2 arg3 harg3 arg4 harg4 arg5 harg5 arg6 harg6 arg7 harg7 arg8 harg8 X1 X2 X3 X4 init ⟨k, hk'⟩).1,
      congrArg Prod.fst (st_carried 𝒱 c bd i arg1 harg1 arg2 harg2 arg3 harg3 arg4 harg4 arg5 harg5 arg6 harg6 arg7 harg7 arg8 harg8 X1 X2 X3 X4 init (k + 1) hk)]
    rcases Nat.lt_or_ge (y 0).val k with h | h
    · refine (View.read_writes_cons_rows_of_not_mem (W := 1) (o := k) _ _ _ _ _ y (off1_eq _) rfl (Or.inl h)).trans ?_
      exact st_rowsF init G k (by omega) y h
    · have hy0 : (y 0).val = k := by omega
      refine (View.read_writes_cons_rows_of_mem (o := k) _ _ _ _ _ y (ix2 (0 : Fin 1) (y 1) : S1x512.Idx) (off1_eq _) hy0 rfl).trans ?_
      rw [hy0]

/-- Before trip `k` the second output block's last `k` rows hold the backward states after each. -/
theorem st_rowsB (init : Vec F S1x512 .f32 × Vec F S1x512 .f32) (G : BufTy.Contents (Elt F) arg6.view.ty) : ∀ k, k ≤ 256 →
    ∀ y : S256x512.Idx, 255 - (y 0).val < k → arg6.view.read (Elt F) (arg6.view.writes (Elt F) G (st_k0_t1 𝒱 c bd i arg1 harg1 arg2 harg2 arg3 harg3 arg4 harg4 arg5 harg5 arg6 harg6 arg7 harg7 arg8 harg8 X1 X2 X3 X4 init k).2.2) y
      = stB (arg3.view.read (Elt F) X3) (arg4.view.read (Elt F) X4) init.2 (256 - (y 0).val) (ix2 0 (y 1))
  | 0, _, y, hy => absurd hy (Nat.not_lt_zero _)
  | k + 1, hk, y, hy => by
    have hy256 : (y 0).val < 256 := (y 0).isLt
    have hk' : k < k0_t1_loop.trips := by rw [trips_eq]; omega
    rw [(st_pieces 𝒱 c bd i arg1 harg1 arg2 harg2 arg3 harg3 arg4 harg4 arg5 harg5 arg6 harg6 arg7 harg7 arg8 harg8 X1 X2 X3 X4 init ⟨k, hk'⟩).2,
      congrArg Prod.snd (st_carried 𝒱 c bd i arg1 harg1 arg2 harg2 arg3 harg3 arg4 harg4 arg5 harg5 arg6 harg6 arg7 harg7 arg8 harg8 X1 X2 X3 X4 init (k + 1) hk)]
    rcases Nat.lt_or_ge (255 - (y 0).val) k with h | h
    · refine (View.read_writes_cons_rows_of_not_mem (W := 1) (o := 255 - k) _ _ _ _ _ y (off2_eq _) rfl (Or.inr (by omega))).trans ?_
      exact st_rowsB init G k (by omega) y h
    · have hy0 : (y 0).val = 255 - k := by omega
      refine (View.read_writes_cons_rows_of_mem (o := 255 - k) _ _ _ _ _ y (ix2 (0 : Fin 1) (y 1) : S1x512.Idx) (off2_eq _) hy0 rfl).trans ?_
      rw [show 256 - (y 0).val = k + 1 by omega]

end Trip

/-! ## The body -/

/-- What the body leaves in the first output block. -/
def outF (a b : Vec F S256x512 .f32) (s : Vec F S1x512 .f32) : Vec F S256x512 .f32 :=
  fun y => stF a b s ((y 0).val + 1) (ix2 0 (y 1))

/-- What the body leaves in the second output block. -/
def outB (a b : Vec F S256x512 .f32) (s : Vec F S1x512 .f32) : Vec F S256x512 .f32 :=
  fun y => stB a b s (256 - (y 0).val) (ix2 0 (y 1))

/-- The row of zeros both directions start from. -/
def zrow : Vec F S1x512 .f32 := broadcast S1x512 (Scalar.ofBits .f32 0x00000000#32)

/-- The body's branch is taken at the first point only. -/
abbrev first (i : grid0.Coords) : Prop := (Scalar.cmpi .ne (Scalar.extui (Scalar.cmpi .eq (BitVec.ofNat 32 (i 0).val) 0#32)) 0#32) = 1#1

theorem first_iff : ∀ t : Fin cfg0.N, first (grid0.coords t) ↔ t.val = 0 :=
  (by decide +kernel : ∀ t : Fin grid0.N, first (grid0.coords t) ↔ t.val = 0)

theorem hz2 : (![0, 0] : Fin 2 → ℕ) = fun _ => 0 := funext fun a => by fin_cases a <;> rfl

section Body

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole)
  (x1 x2 x3 x4 : Vec F S256x512 .f32)

/-- What the body is handed beside the carried rows: the four input blocks, and the output blocks at anything. -/
abbrev held (d5 d6 : Vec F S256x512 .f32) (s7 s8 : Vec F S1x512 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4
    ∗ owns (c : Thread nD τ) arg5 fullShare d5 ∗ owns (c : Thread nD τ) arg6 fullShare d6 ∗ owns (c : Thread nD τ) arg7 fullShare s7 ∗ owns (c : Thread nD τ) arg8 fullShare s8)

/-- After the loop: the carried pair and the two output blocks, from any initial pair. -/
theorem end_eq (s7 s8 : Vec F S1x512 .f32) (init : Vec F S1x512 .f32 × Vec F S1x512 .f32) (hi : init = (s7, s8)) (f5 : BufTy.Contents (Elt F) arg5.view.ty) (f6 : BufTy.Contents (Elt F) arg6.view.ty) :
    (st_k0_t1 Variants.none c none i arg1 harg1 arg2 harg2 arg3 harg3 arg4 harg4 arg5 harg5 arg6 harg6 arg7 harg7 arg8 harg8 (harg1.unread x1) (harg2.unread x2) (harg3.unread x3) (harg4.unread x4) init (Scf.trips k0_t1_loop.lb k0_t1_loop.ub k0_t1_loop.st)).1.1 = stF x1 x2 s7 256 ∧ (st_k0_t1 Variants.none c none i arg1 harg1 arg2 harg2 arg3 harg3 arg4 harg4 arg5 harg5 arg6 harg6 arg7 harg7 arg8 harg8 (harg1.unread x1) (harg2.unread x2) (harg3.unread x3) (harg4.unread x4) init (Scf.trips k0_t1_loop.lb k0_t1_loop.ub k0_t1_loop.st)).1.2 = stB x3 x4 s8 256
    ∧ arg5.view.read (Elt F) (arg5.view.writes (Elt F) f5 (st_k0_t1 Variants.none c none i arg1 harg1 arg2 harg2 arg3 harg3 arg4 harg4 arg5 harg5 arg6 harg6 arg7 harg7 arg8 harg8 (harg1.unread x1) (harg2.unread x2) (harg3.unread x3) (harg4.unread x4) init (Scf.trips k0_t1_loop.lb k0_t1_loop.ub k0_t1_loop.st)).2.1) = outF x1 x2 s7
    ∧ arg6.view.read (Elt F) (arg6.view.writes (Elt F) f6 (st_k0_t1 Variants.none c none i arg1 harg1 arg2 harg2 arg3 harg3 arg4 harg4 arg5 harg5 arg6 harg6 arg7 harg7 arg8 harg8 (harg1.unread x1) (harg2.unread x2) (harg3.unread x3) (harg4.unread x4) init (Scf.trips k0_t1_loop.lb k0_t1_loop.ub k0_t1_loop.st)).2.2) = outB x3 x4 s8 := by
  subst hi
  rw [show Scf.trips k0_t1_loop.lb k0_t1_loop.ub k0_t1_loop.st = 256 from trips_eq]
  have hc := st_carried Variants.none c none i arg1 harg1 arg2 harg2 arg3 harg3 arg4 harg4 arg5 harg5 arg6 harg6 arg7 harg7 arg8 harg8 (harg1.unread x1) (harg2.unread x2) (harg3.unread x3) (harg4.unread x4) (s7, s8) 256 le_rfl
  rw [harg1.read_unread, harg2.read_unread, harg3.read_unread, harg4.read_unread] at hc
  refine ⟨congrArg Prod.fst hc, congrArg Prod.snd hc, funext fun y => ?_, funext fun y => ?_⟩
  · refine (st_rowsF Variants.none c none i arg1 harg1 arg2 harg2 arg3 harg3 arg4 harg4 arg5 harg5 arg6 harg6 arg7 harg7 arg8 harg8 (harg1.unread x1) (harg2.unread x2) (harg3.unread x3) (harg4.unread x4) (s7, s8) f5 256 le_rfl y (y 0).isLt).trans ?_
    rw [harg1.read_unread, harg2.read_unread]; rfl
  · refine (st_rowsB Variants.none c none i arg1 harg1 arg2 harg2 arg3 harg3 arg4 harg4 arg5 harg5 arg6 harg6 arg7 harg7 arg8 harg8 (harg1.unread x1) (harg2.unread x2) (harg3.unread x3) (harg4.unread x4) (s7, s8) f6 256 le_rfl y (by omega)).trans ?_
    rw [harg3.read_unread, harg4.read_unread]; rfl

/-- A whole row stored is the row read back. -/
theorem read_row (arg : Memref sig .tc .vmem S1x512 .f32) (f : BufTy.Contents (Elt F) arg.view.ty) (w : Vec F S1x512 .f32) (L : List (View.Piece (Elt F) S1x512 .f32)) :
    arg.view.read (Elt F) (arg.view.writes (Elt F) f (⟨Rect.unit (s := S1x512) ![0, 0] S1x512.size inb_S1x512_S1x512_0_0, w⟩ :: L)) = w :=
  funext fun y => View.read_writes_cons_unit_of_mem arg.view f inb_S1x512_S1x512_0_0 w L y y hz2 fun a => by rw [Nat.zero_add]

theorem pay1_eq : k0_pay1 (F := F) = zrow := shapeCast_self _ _
theorem pay2_eq : k0_pay2 (F := F) = zrow := shapeCast_self _ _
theorem pay5_eq (w : Vec F S1x512 .f32) : k0_pay5 w = w := shapeCast_self _ _
theorem pay6_eq (w : Vec F S1x512 .f32) : k0_pay6 w = w := shapeCast_self _ _

set_option maxHeartbeats 1000000 in
/-- A later point: from the carried rows `s7`, `s8`. -/
theorem body_later (hc : ¬first i) (d5 d6 : Vec F S256x512 .f32) (s7 s8 : Vec F S1x512 .f32) (K : PUnit → sProp 𝕄) :
    iprop(held c arg1 arg2 arg3 arg4 arg5 arg6 arg7 arg8 x1 x2 x3 x4 d5 d6 s7 s8
      ∗ (held c arg1 arg2 arg3 arg4 arg5 arg6 arg7 arg8 x1 x2 x3 x4 (outF x1 x2 s7) (outB x3 x4 s8) (stF x1 x2 s7 256) (stB x3 x4 s8 256) -∗ K ⟨⟩))
    ⊢ wp frame (wpE (defs₀ (F := F)) Variants.none c none) Set.univ (cc0__lru_scan_body i arg1 harg1 arg2 harg2 arg3 harg3 arg4 harg4 arg5 harg5 arg6 harg6 arg7 harg7 arg8 harg8) K := by
  unfold held
  simp only [cc0__lru_scan_body_eq_skeleton]; unfold cc0__lru_scan_body_skel
  unfold owns
  iintro ⟨⟨⟨%f1, %hf1, H1⟩, ⟨%f2, %hf2, H2⟩, ⟨%f3, %hf3, H3⟩, ⟨%f4, %hf4, H4⟩, ⟨%f5, -, H5⟩, ⟨%f6, -, H6⟩, ⟨%f7, %hf7, H7⟩, ⟨%f8, %hf8, H8⟩⟩, Hk⟩
  obtain rfl := harg1.eq_unread hf1; obtain rfl := harg2.eq_unread hf2; obtain rfl := harg3.eq_unread hf3; obtain rfl := harg4.eq_unread hf4; obtain rfl := harg7.eq_unread hf7; obtain rfl := harg8.eq_unread hf8
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  obtain ⟨e7, e8, e5, e6⟩ := end_eq c i arg1 harg1 arg2 harg2 arg3 harg3 arg4 harg4 arg5 harg5 arg6 harg6 arg7 harg7 arg8 harg8 x1 x2 x3 x4 s7 s8
    (View.readAt (Elt F) arg7.view (Rect.unit ![0, 0] S1x512.size inb_S1x512_S1x512_0_0).toLoadRect (harg7.unread s7),
      View.readAt (Elt F) arg8.view (Rect.unit ![0, 0] S1x512.size inb_S1x512_S1x512_0_0).toLoadRect (harg8.unread s8))
    (by rw [View.readAt_eq_ld, View.readAt_eq_ld, harg7.read_unread, harg8.read_unread, View.ld_unit_zero (S := S1x512) hz2, View.ld_unit_zero (S := S1x512) hz2]) f5 f6
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact (read_row arg7 _ _ _).trans ((pay5_eq _).trans e7)
  · iexists _; isplitr; swap; · iexact H8
    ipureintro; exact (read_row arg8 _ _ _).trans ((pay6_eq _).trans e8)

set_option maxHeartbeats 1000000 in
/-- The first point: from rows of zeros, whatever the carried rows held. -/
theorem body_first (hc : first i) (d5 d6 : Vec F S256x512 .f32) (s7 s8 : Vec F S1x512 .f32) (K : PUnit → sProp 𝕄) :
    iprop(held c arg1 arg2 arg3 arg4 arg5 arg6 arg7 arg8 x1 x2 x3 x4 d5 d6 s7 s8
      ∗ (held c arg1 arg2 arg3 arg4 arg5 arg6 arg7 arg8 x1 x2 x3 x4 (outF x1 x2 zrow) (outB x3 x4 zrow) (stF x1 x2 zrow 256) (stB x3 x4 zrow 256) -∗ K ⟨⟩))
    ⊢ wp frame (wpE (defs₀ (F := F)) Variants.none c none) Set.univ (cc0__lru_scan_body i arg1 harg1 arg2 harg2 arg3 harg3 arg4 harg4 arg5 harg5 arg6 harg6 arg7 harg7 arg8 harg8) K := by
  unfold held
  simp only [cc0__lru_scan_body_eq_skeleton]; unfold cc0__lru_scan_body_skel
  unfold owns
  iintro ⟨⟨⟨%f1, %hf1, H1⟩, ⟨%f2, %hf2, H2⟩, ⟨%f3, %hf3, H3⟩, ⟨%f4, %hf4, H4⟩, ⟨%f5, -, H5⟩, ⟨%f6, -, H6⟩, ⟨%f7, %hf7, H7⟩, ⟨%f8, %hf8, H8⟩⟩, Hk⟩
  obtain rfl := harg1.eq_unread hf1; obtain rfl := harg2.eq_unread hf2; obtain rfl := harg3.eq_unread hf3; obtain rfl := harg4.eq_unread hf4; obtain rfl := harg7.eq_unread hf7; obtain rfl := harg8.eq_unread hf8
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  obtain ⟨e7, e8, e5, e6⟩ := end_eq c i arg1 harg1 arg2 harg2 arg3 harg3 arg4 harg4 arg5 harg5 arg6 harg6 arg7 harg7 arg8 harg8 x1 x2 x3 x4 zrow zrow
    (arg7.view.readCov [⟨Rect.unit (s := S1x512) ![0, 0] S1x512.size inb_S1x512_S1x512_0_0, k0_pay1⟩] (Rect.unit (s := S1x512) ![0, 0] S1x512.size inb_S1x512_S1x512_0_0).toLoadRect,
      arg8.view.readCov [⟨Rect.unit (s := S1x512) ![0, 0] S1x512.size inb_S1x512_S1x512_0_0, k0_pay2⟩] (Rect.unit (s := S1x512) ![0, 0] S1x512.size inb_S1x512_S1x512_0_0).toLoadRect)
    (by rw [View.readCov_unit_zero (S := S1x512) _ hz2, View.readCov_unit_zero (S := S1x512) _ hz2, pay1_eq, pay2_eq]) f5 f6
  sl_unfold_words
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact (read_row arg7 _ _ _).trans ((pay5_eq _).trans e7)
  · iexists _; isplitr; swap; · iexact H8
    ipureintro; exact (read_row arg8 _ _ _).trans ((pay6_eq _).trans e8)

end Body

end Cert.KernelIdeal.Scan
-- ==== Proof.ScanFrame.lean ====
/-
  The recurrence kernel's run: before each point the two carried rows are known, after each point the two output
  blocks are known; so the run ends with the arguments unchanged and the results the blocks the points wrote.
-/
module

public import proofs.«01_k».proof.Proof.ScanBody
public import Idealize.ShloMosaic.Lib.Claim

@[expose] public section

set_option maxRecDepth 16384

noncomputable section

namespace Cert.KernelIdeal.Scan

open Cert.KernelIdeal Cert.KernelIdeal.Gen Cert.Lru
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four input blocks of a point. -/
abbrev inA (c : Dev nD) (t : Fin cfg0.N) : Vec F S256x512 .f32 := iblk m c 0 t
abbrev inB (c : Dev nD) (t : Fin cfg0.N) : Vec F S256x512 .f32 := iblk m c 1 t
abbrev inC (c : Dev nD) (t : Fin cfg0.N) : Vec F S256x512 .f32 := iblk m c 2 t
abbrev inD (c : Dev nD) (t : Fin cfg0.N) : Vec F S256x512 .f32 := iblk m c 3 t

/-- The two carried rows as point `n` starts from them: zeros, then what the point before left. -/
def rows (c : Dev nD) : (n : ℕ) → n ≤ cfg0.N → Vec F S1x512 .f32 × Vec F S1x512 .f32
  | 0, _ => (zrow, zrow)
  | n + 1, h => (stF (inA m c ⟨n, h⟩) (inB m c ⟨n, h⟩) (rows c n (Nat.le_of_lt h)).1 256,
      stB (inC m c ⟨n, h⟩) (inD m c ⟨n, h⟩) (rows c n (Nat.le_of_lt h)).2 256)

theorem rows_first (c : Dev nD) (n : ℕ) (h : n ≤ cfg0.N) (hz : n = 0) : rows m c n h = (zrow, zrow) := by
  subst hz; rfl

theorem rows_succ (c : Dev nD) (t : Fin cfg0.N) : rows m c (t.val + 1) t.isLt
    = (stF (inA m c t) (inB m c t) (rows m c t.val (Nat.le_of_lt t.isLt)).1 256,
      stB (inC m c t) (inD m c t) (rows m c t.val (Nat.le_of_lt t.isLt)).2 256) := rfl

/-- The carried rows and the generator register. -/
abbrev kept (c : Dev nD) (s : Vec F S1x512 .f32 × Vec F S1x512 .f32) : sProp 𝕄 :=
  iprop((owns (c : Thread nD τ) (Memref.whole cc0_scratch0) fullShare s.1 ∗ owns (c : Thread nD τ) (Memref.whole cc0_scratch1) fullShare s.2)
    ∗ (∃ r, prngReg c r))

/-- Between points: at first whatever the launch hands over, then the carried rows at their contents. -/
def inv (c : Dev nD) : (n : ℕ) → n ≤ cfg0.N → sProp 𝕄
  | 0, _ => Pipeline.ΦA spec0 c
  | n + 1, h => kept c (rows m c (n + 1) h)

theorem inv_first (c : Dev nD) (n : ℕ) (h : n ≤ cfg0.N) (hz : n = 0) : inv m c n h = Pipeline.ΦA spec0 c := by
  subst hz; rfl

theorem inv_later (c : Dev nD) (n : ℕ) (h : n ≤ cfg0.N) (hz : n ≠ 0) : inv m c n h = kept c (rows m c n h) := by
  cases n with
  | zero => exact absurd rfl hz
  | succ n => rfl

theorem launch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The proof data: inputs stay, outputs hold the states after each row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outF (inA m c t) (inB m c t) (rows m c t.val (Nat.le_of_lt t.isLt)).1
    | ⟨5, _⟩ => outB (inC m c t) (inD m c t) (rows m c t.val (Nat.le_of_lt t.isLt)).2
  Φ t := inv m c t.val (Nat.le_of_lt_succ t.isLt)
  q _ := fullShare
  owed _ := 0

theorem dats_A (c : Dev nD) (w : Fin cfg0.W) : (dats m 0 c).A w = V m c (Pipeline.arrRef spec0 w) := by
  dsimp only [dats]

theorem dats_inv (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outF (inA m c t) (inB m c t) (rows m c t.val (Nat.le_of_lt t.isLt)).1 := by
  dsimp only [dats]
theorem after_5 (c : Dev nD) (t : Fin cfg0.N) : (dats m 0 c).after 5 t = outB (inC m c t) (inD m c t) (rows m c t.val (Nat.le_of_lt t.isLt)).2 := by
  dsimp only [dats]

theorem before_0 (c : Dev nD) (t : Fin cfg0.N) (d) : (dats m 0 c).before 0 t d = iblk m c 0 t := before0_0_of m (dats m 0 c) (dats_A m c 0) (after_0 m c) t d
theorem before_1 (c : Dev nD) (t : Fin cfg0.N) (d) : (dats m 0 c).before 1 t d = iblk m c 1 t := before0_1_of m (dats m 0 c) (dats_A m c 1) (after_1 m c) t d
theorem before_2 (c : Dev nD) (t : Fin cfg0.N) (d) : (dats m 0 c).before 2 t d = iblk m c 2 t := before0_2_of m (dats m 0 c) (dats_A m c 2) (after_2 m c) t d
theorem before_3 (c : Dev nD) (t : Fin cfg0.N) (d) : (dats m 0 c).before 3 t d = iblk m c 3 t := before0_3_of m (dats m 0 c) (dats_A m c 3) (after_3 m c) t d

def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 3200000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3]
  rw [show (dats m 0 c).owesAt () t.succ = (dats m 0 c).owesAt () t.castSucc from rfl,
    after_0, after_1, after_2, after_3, after_4, after_5,
    show (dats m 0 c).Φ t.succ = kept c (rows m c (t.val + 1) t.isLt) from rfl, rows_succ, dats_inv]
  by_cases hz : t.val = 0
  · rw [inv_first m c _ _ hz, launch_eq, rows_first m c _ _ hz]
    dsimp only
    iintro ⟨⟨⟨⟨%s7, H7⟩, ⟨%s8, H8⟩⟩, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ _ _ (inA m c t) (inB m c t) (inC m c t) (inD m c t) ((first_iff t).mpr hz) _ _ _ _ _)
    isplitl [H0 H1 H2 H3 H4 H5 H7 H8]
    · unfold held
      isplitl [H0]; · iexact H0
      isplitl [H1]; · iexact H1
      isplitl [H2]; · iexact H2
      isplitl [H3]; · iexact H3
      isplitl [H4]; · iexact H4
      isplitl [H5]; · iexact H5
      isplitl [H7]; · iexact H7
      iexact H8
    unfold held
    iintro ⟨H0, H1, H2, H3, H4, H5, H7, H8⟩
    isplitl [H7 H8 Hg]
    · isplitl [H7 H8]
      · isplitl [H7]; · iexact H7
        iexact H8
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [inv_later m c _ _ hz]
    iintro ⟨⟨⟨H7, H8⟩, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ _ _ (inA m c t) (inB m c t) (inC m c t) (inD m c t) (fun h => hz ((first_iff t).mp h)) _ _ _ _ _)
    isplitl [H0 H1 H2 H3 H4 H5 H7 H8]
    · unfold held
      isplitl [H0]; · iexact H0
      isplitl [H1]; · iexact H1
      isplitl [H2]; · iexact H2
      isplitl [H3]; · iexact H3
      isplitl [H4]; · iexact H4
      isplitl [H5]; · iexact H5
      isplitl [H7]; · iexact H7
      iexact H8
    unfold held
    iintro ⟨H0, H1, H2, H3, H4, H5, H7, H8⟩
    isplitl [H7 H8 Hg]
    · isplitl [H7 H8]
      · isplitl [H7]; · iexact H7
        iexact H8
      iexact Hg
    isplitl [Ho]; · iexact Ho
    isplitl [H0]; · iexact H0
    isplitl [H1]; · iexact H1
    isplitl [H2]; · iexact H2
    isplitl [H3]; · iexact H3
    isplitl [H4]; · iexact H4
    iexact H5

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (point_sound m c t) rfl .rfl fun _ => .rfl

theorem hin (c : Dev nD) : Pipeline.ΦA spec0 c ⊢ (dats m 0 c).Φ 0 := by
  rw [show (dats m 0 c).Φ 0 = inv m c 0 (Nat.zero_le _) from rfl, inv_first m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c cfg0.N (Nat.le_refl _) from rfl,
    inv_later m c _ _ (by have : cfg0.N = 33 := N_0; omega), launch_eq]
  iintro ⟨⟨H7, H8⟩, Hg⟩
  isplitl [H7 H8]
  · isplitl [H7]
    · iexists _; iexact H7
    iexists _; iexact H8
  iexact Hg

set_option backward.isDefEq.respectTransparency.types false in
theorem run_quiet : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hin := hin m) (hout := hout m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) ((θ_run defs _ _).mono (fun _ h => h.1) (run_quiet m ρ)))
    ((θ_run defs _ _).mono (fun _ h => h.2) (run_quiet m ρ))

end Cert.KernelIdeal.Scan

end
-- ==== Proof.Spec.lean ====
/-
  What both programs compute, at an index, over any float values: the states of the two recurrences.
-/
module

public import proofs.«01_k».proof.Proof.Recurrence
public import Idealize.ShloMosaic.Lib.ValueIdxCore

@[expose] public section

namespace Cert.Lru

open Idealize.ShloMosaic
open Idealize.ShloMosaic.ValueIdx (ix2)

variable {F : FTy → Type} [FloatOps F]

/-- The sequence: 8448 rows of 512 lanes. -/
abbrev Seq : Shape := ⟨2, ![8448, 512]⟩

/-- Lane `c` of row `n`. -/
def lane (x : Vec F Seq .f32) (c : Fin 512) (n : ℕ) : F .f32 := x (ix2 (Fin.ofNat 8448 n) c)

/-- The state before the first row. -/
def zero : F .f32 := Scalar.ofBits .f32 0x00000000#32

/-- The forward states after each row. -/
def fwd (a b : Vec F Seq .f32) : Vec F Seq .f32 :=
  fun y => hrec zero (lane a (y 1)) (lane b (y 1)) ((y 0).val + 1)

/-- The backward states after each row, the rows taken in the order `turn`. -/
def bwd (a b : Vec F Seq .f32) : Vec F Seq .f32 :=
  fun y => hrec zero (fun n => lane a (y 1) (turn n)) (fun n => lane b (y 1) (turn n)) (turn (y 0).val + 1)

end Cert.Lru
-- ==== Proof.ScanValue.lean ====
/-
  The recurrence kernel's results: the forward states of the first pair of arrays, the backward states of the second.
-/
module

public import proofs.«01_k».proof.Proof.ScanFrame
public import proofs.«01_k».proof.Proof.Spec
public import Idealize.ShloMosaic.Lib.Pipeline.ValueKit.Geometry

@[expose] public section

set_option maxRecDepth 16384

noncomputable section

namespace Cert.KernelIdeal.Scan

open Cert.KernelIdeal Cert.KernelIdeal.Gen Cert.Lru
open Idealize.ShloMosaic Idealize.ShloMosaic.TcCoe Idealize.ShloMosaic.Tactic
open Idealize.ShloMosaic.ValueIdx (ix2)
open Idealize.SL.Sem

variable {F : FTy → Type} [FloatOps F]
variable (m : (ℓ : Loc nD τ sig) → Buf (Elt F) ℓ) (ρ : Dev nD → PrngReg)

/-- The block of rows the backward direction takes at point `t`. -/
def back (t : ℕ) : ℕ := if t = 0 then 0 else 33 - t

theorem turn_block (t k : ℕ) (ht : t < 33) (hk : k < 256) : turn (256 * t + k) = 256 * back t + (255 - k) := by
  unfold turn back; split_ifs <;> omega

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![back t.val, 0] := (by decide +kernel : ∀ t : Fin grid0.N, win0_2.index t = ![back t.val, 0])
theorem index_3 : ∀ t : Fin cfg0.N, win0_3.index t = ![back t.val, 0] := (by decide +kernel : ∀ t : Fin grid0.N, win0_3.index t = ![back t.val, 0])
theorem index_4 : ∀ t : Fin cfg0.N, win0_4.index t = ![t.val, 0] := (by decide +kernel : ∀ t : Fin grid0.N, win0_4.index t = ![t.val, 0])
theorem index_5 : ∀ t : Fin cfg0.N, win0_5.index t = ![back t.val, 0] := (by decide +kernel : ∀ t : Fin grid0.N, win0_5.index t = ![back t.val, 0])

/-- The four argument arrays. -/
abbrev argA (c : Dev nD) : Vec F Seq .f32 := m ((c.tc : Thread nD τ).loc main_arg0)
abbrev argB (c : Dev nD) : Vec F Seq .f32 := m ((c.tc : Thread nD τ).loc main_arg1)
abbrev argC (c : Dev nD) : Vec F Seq .f32 := m ((c.tc : Thread nD τ).loc main_arg2)
abbrev argD (c : Dev nD) : Vec F Seq .f32 := m ((c.tc : Thread nD τ).loc main_arg3)

theorem lane_at (x : Vec F Seq .f32) (y : Seq.Idx) (n : ℕ) (c : Fin 512) (h0 : (y 0).val = n) (h1 : (y 1).val = c.val) :
    x y = lane x c n := by
  unfold lane
  refine congrArg x (funext fun a => ?_)
  have h : (y 0).val < 8448 := (y 0).isLt
  match a with
  | ⟨0, _⟩ => exact Fin.ext (h0.trans (Nat.mod_eq_of_lt (h0 ▸ h)).symm)
  | ⟨1, _⟩ => exact Fin.ext h1

theorem cell_A (c : Dev nD) (t : Fin cfg0.N) (n : ℕ) (hn : n < 256) (j : Fin 512) :
    cell (inA m c t) n j = lane (argA m c) j (256 * t.val + n) := by
  refine lane_at (argA m c) _ _ _ ?_ ?_
  · show win0_0.index t 0 * 256 + 1 * (n % 256) = _
    rw [index_0, Nat.mod_eq_of_lt hn]; show t.val * 256 + 1 * n = _; omega
  · show win0_0.index t 1 * 512 + 1 * j.val = _
    rw [index_0]; show 0 * 512 + 1 * j.val = _; omega

theorem cell_B (c : Dev nD) (t : Fin cfg0.N) (n : ℕ) (hn : n < 256) (j : Fin 512) :
    cell (inB m c t) n j = lane (argB m c) j (256 * t.val + n) := by
  refine lane_at (argB m c) _ _ _ ?_ ?_
  · show win0_1.index t 0 * 256 + 1 * (n % 256) = _
    rw [index_1, Nat.mod_eq_of_lt hn]; show t.val * 256 + 1 * n = _; omega
  · show win0_1.index t 1 * 512 + 1 * j.val = _
    rw [index_1]; show 0 * 512 + 1 * j.val = _; omega

theorem cell_C (c : Dev nD) (t : Fin cfg0.N) (n : ℕ) (hn : n < 256) (j : Fin 512) :
    cell (inC m c t) (255 - n) j = lane (argC m c) j (turn (256 * t.val + n)) := by
  rw [turn_block _ _ (lt_of_lt_of_eq t.isLt N_0) hn]
  refine lane_at (argC m c) _ _ _ ?_ ?_
  · show win0_2.index t 0 * 256 + 1 * ((255 - n) % 256) = _
    rw [index_2, Nat.mod_eq_of_lt (by omega)]; show back t.val * 256 + 1 * (255 - n) = _; omega
  · show win0_2.index t 1 * 512 + 1 * j.val = _
    rw [index_2]; show 0 * 512 + 1 * j.val = _; omega

theorem cell_D (c : Dev nD) (t : Fin cfg0.N) (n : ℕ) (hn : n < 256) (j : Fin 512) :
    cell (inD m c t) (255 - n) j = lane (argD m c) j (turn (256 * t.val + n)) := by
  rw [turn_block _ _ (lt_of_lt_of_eq t.isLt N_0) hn]
  refine lane_at (argD m c) _ _ _ ?_ ?_
  · show win0_3.index t 0 * 256 + 1 * ((255 - n) % 256) = _
    rw [index_3, Nat.mod_eq_of_lt (by omega)]; show back t.val * 256 + 1 * (255 - n) = _; omega
  · show win0_3.index t 1 * 512 + 1 * j.val = _
    rw [index_3]; show 0 * 512 + 1 * j.val = _; omega

/-- Forward states within point `t`'s block, from a carried row that is the state after `256 * t` rows. -/
theorem stF_eq (c : Dev nD) (t : Fin cfg0.N) (s : Vec F S1x512 .f32) (j : S1x512.Idx)
    (hs : s j = hrec zero (lane (argA m c) (j 1)) (lane (argB m c) (j 1)) (256 * t.val)) (k : ℕ) (hk : k ≤ 256) :
    stF (inA m c t) (inB m c t) s k j = hrec zero (lane (argA m c) (j 1)) (lane (argB m c) (j 1)) (256 * t.val + k) := by
  rw [← hrec_add]
  exact hrec_congr hs k (fun n hn => cell_A m c t n (by omega) (j 1)) (fun n hn => cell_B m c t n (by omega) (j 1))

theorem stB_eq (c : Dev nD) (t : Fin cfg0.N) (s : Vec F S1x512 .f32) (j : S1x512.Idx)
    (hs : s j = hrec zero (fun n => lane (argC m c) (j 1) (turn n)) (fun n => lane (argD m c) (j 1) (turn n)) (256 * t.val)) (k : ℕ) (hk : k ≤ 256) :
    stB (inC m c t) (inD m c t) s k j
      = hrec zero (fun n => lane (argC m c) (j 1) (turn n)) (fun n => lane (argD m c) (j 1) (turn n)) (256 * t.val + k) := by
  rw [← hrec_add]
  exact hrec_congr hs k (fun n hn => cell_C m c t n (by omega) (j 1)) (fun n hn => cell_D m c t n (by omega) (j 1))

/-- The carried rows before point `n` are the states after `256 * n` steps. -/
theorem rows_eq (c : Dev nD) (j : S1x512.Idx) : ∀ (n : ℕ) (h : n ≤ cfg0.N),
    (rows m c n h).1 j = hrec zero (lane (argA m c) (j 1)) (lane (argB m c) (j 1)) (256 * n)
    ∧ (rows m c n h).2 j = hrec zero (fun n => lane (argC m c) (j 1) (turn n)) (fun n => lane (argD m c) (j 1) (turn n)) (256 * n)
  | 0, _ => ⟨rfl, rfl⟩
  | n + 1, h => by
    have ih := rows_eq c j n (Nat.le_of_lt h)
    exact ⟨stF_eq m c ⟨n, h⟩ _ j ih.1 256 le_rfl, stB_eq m c ⟨n, h⟩ _ j ih.2 256 le_rfl⟩

/-- The first result. -/
theorem result_4 (c : Dev nD) : (dats m 0 c).arrAt 4 cfg0.N = fwd (argA m c) (argB m c) := by
  refine (dats m 0 c).arrAt_eq_of_covers 4 _ (by decide +kernel) fun t hf y => ?_
  blk_simp
  rw [after_4]
  have h0 : ((win0_4.blk t).view.emb y 0).val = 256 * t.val + (y 0).val := by
    show win0_4.index t 0 * 256 + 1 * (y 0).val = _
    rw [index_4]; show t.val * 256 + 1 * (y 0).val = _; omega
  have h1 : (win0_4.blk t).view.emb y 1 = y 1 := Fin.ext (by
    show win0_4.index t 1 * 512 + 1 * (y 1).val = _
    rw [index_4]; show 0 * 512 + 1 * (y 1).val = _; omega)
  unfold fwd
  rw [h0, h1]
  have hy : (y 0).val < 256 := (y 0).isLt
  exact stF_eq m c t _ (ix2 0 (y 1)) (rows_eq m c (ix2 0 (y 1)) t.val (Nat.le_of_lt t.isLt)).1 ((y 0).val + 1) (by omega)

/-- The second result. -/
theorem result_5 (c : Dev nD) : (dats m 0 c).arrAt 5 cfg0.N = bwd (argC m c) (argD m c) := by
  refine (dats m 0 c).arrAt_eq_of_covers 5 _ (by decide +kernel) fun t hf y => ?_
  blk_simp
  rw [after_5]
  have ht : t.val < 33 := lt_of_lt_of_eq t.isLt N_0
  have hy : (y 0).val < 256 := (y 0).isLt
  have h0 : turn ((win0_5.blk t).view.emb y 0).val = 256 * t.val + (255 - (y 0).val) := by
    have e : ((win0_5.blk t).view.emb y 0).val = turn (256 * t.val + (255 - (y 0).val)) := by
      rw [turn_block _ _ ht (by omega)]
      show win0_5.index t 0 * 256 + 1 * (y 0).val = _
      rw [index_5]; show back t.val * 256 + 1 * (y 0).val = _; omega
    rw [e, turn_turn (by omega)]
  have h1 : (win0_5.blk t).view.emb y 1 = y 1 := Fin.ext (by
    show win0_5.index t 1 * 512 + 1 * (y 1).val = _
    rw [index_5]; show 0 * 512 + 1 * (y 1).val = _; omega)
  unfold bwd
  rw [h0, h1, show 256 * t.val + (255 - (y 0).val) + 1 = 256 * t.val + (256 - (y 0).val) by omega]
  exact stB_eq m c t _ (ix2 0 (y 1)) (rows_eq m c (ix2 0 (y 1)) t.val (Nat.le_of_lt t.isLt)).2 (256 - (y 0).val) (by omega)

/-- The run, read: both results, and the arguments unchanged. -/
theorem value : θ_run defs (onTc (τ := τ) (main (F := F))) ⟨m, fun _ => 0, ρ⟩ (fun r => ∀ c : Dev nD,
      r.2.mem ((c.tc : Thread nD τ).loc main_v0_0) = fwd (argA m c) (argB m c)
      ∧ r.2.mem ((c.tc : Thread nD τ).loc main_v0_1) = bwd (argC m c) (argD m c)) :=
  (θ_run defs _ _).mono (fun _ h c => ⟨((h.1 c).1 4).trans (result_4 m c), ((h.1 c).1 5).trans (result_5 m c)⟩) (run_quiet m ρ)

end Cert.KernelIdeal.Scan

end
-- ==== Proof.ScanRef.lean ====
/-
  The reference's scan: before step `k` its carried states are those after `k` steps of the two recurrences, and its
  stacked states hold the rows below `k`.
-/
module

public import proofs.«01_k».proof.Proof.Gen.ReferenceIdeal.Run
public import proofs.«01_k».proof.Proof.Spec
public import Idealize.ShloMosaic.Lib.Pipeline.Value
public import Idealize.ShloMosaic.Lib.WordCmp
public import Idealize.ShloMosaic.Lib.Tactic

@[expose] public section

set_option maxRecDepth 16384

noncomputable section

namespace Cert.ReferenceIdeal.Scan

open Cert.ReferenceIdeal Cert.ReferenceIdeal.Value Cert.ReferenceIdeal.Gen Cert.Lru
open Idealize.ShloMosaic Idealize.ShloMosaic.TcCoe Idealize.ShloMosaic.StableHlo
open Idealize.ShloMosaic.ValueIdx (ix1 ix2)
open Idealize.SL.Sem

variable {F : FTy → Type} [FloatOps F]
variable (m : (ℓ : Loc nD τ sig) → Buf (Elt F) ℓ) (ρ : Dev nD → PrngReg)

/-- An array's rows in the backward order. -/
def turned (x : Vec F Seq .f32) : Vec F Seq .f32 := fun y => lane x (y 1) (turn (y 0).val)

/-- The argument arrays. -/
abbrev argA (c : Dev nD) : Vec F Seq .f32 := m ((c.tc : Thread nD τ).loc main_arg0)
abbrev argB (c : Dev nD) : Vec F Seq .f32 := m ((c.tc : Thread nD τ).loc main_arg1)
abbrev argC (c : Dev nD) : Vec F Seq .f32 := m ((c.tc : Thread nD τ).loc main_arg2)
abbrev argD (c : Dev nD) : Vec F Seq .f32 := m ((c.tc : Thread nD τ).loc main_arg3)

theorem lane_at (x : Vec F Seq .f32) (y : Seq.Idx) (n : ℕ) (c : Fin 512) (h0 : (y 0).val = n) (h1 : (y 1).val = c.val) :
    x y = lane x c n := by
  unfold lane
  refine congrArg x (funext fun a => ?_)
  have h : (y 0).val < 8448 := (y 0).isLt
  match a with
  | ⟨0, _⟩ => exact Fin.ext (h0.trans (Nat.mod_eq_of_lt (h0 ▸ h)).symm)
  | ⟨1, _⟩ => exact Fin.ext h1

/-- Flipping the first 256 rows and the rest, each on its own, takes the rows in the backward order. -/
theorem flips_eq (x : Vec F S8448x512 .f32) :
    concatenate S8448x512 0 [⟨S256x512, Host.reverse [0] (extractStridedSlice S256x512 ![0, 0] x slices_S8448x512_S256x512_0_0)⟩,
      ⟨S8192x512, Host.reverse [0] (extractStridedSlice S8192x512 ![256, 0] x slices_S8448x512_S8192x512_256_0)⟩] concatenates_S256x512_S8192x512_S8448x512_d0
      = turned x := by
  funext y
  have hy : (y 0).val < 8448 := (y 0).isLt
  have hy1 : (y 1).val < 512 := (y 1).isLt
  unfold turned turn
  by_cases h : (y 0).val < 256
  · rw [if_pos h]
    rw [concatenate_pair_apply_left 0 _ _ concatenates_S256x512_S8192x512_S8448x512_d0 y rfl (ix2 ⟨(y 0).val, h⟩ ⟨(y 1).val, hy1⟩)
      (fun b => by match b with | ⟨0, _⟩ => rfl | ⟨1, _⟩ => rfl)]
    refine lane_at x _ _ _ ?_ ?_
    · show 0 + (256 - ((y 0).val + 1)) = 255 - (y 0).val; omega
    · show 0 + (y 1).val = _; omega
  · rw [if_neg h]
    rw [concatenate_pair_apply_right 0 _ _ concatenates_S256x512_S8192x512_S8448x512_d0 y rfl rfl (ix2 ⟨(y 0).val - 256, by omega⟩ ⟨(y 1).val, hy1⟩)
      (fun b hb => by match b, hb with | ⟨0, _⟩, hb => exact absurd rfl hb | ⟨1, _⟩, _ => rfl)
      (by show (y 0).val - 256 + 256 = (y 0).val; omega)]
    refine lane_at x _ _ _ ?_ ?_
    · show 256 + (8192 - ((y 0).val - 256 + 1)) = 8703 - (y 0).val; omega
    · show 0 + (y 1).val = _; omega

/-- Row `k` taken out of an array by the counter. -/
theorem row_at (x : Vec F S8448x512 .f32) (w : (⟨S_, .i32⟩ : BufTy).Contents (Elt F)) (k : ℕ) (hk : k < 8448) (hw : w = fun _ => BitVec.ofNat 32 k) (j : S512.Idx) :
    shapeCast S512 (Host.dynamicSlice S1x512 x (fun k => (((![w, constantI S_ 32 0#32] : Fin 2 → (⟨S_, .i32⟩ : BufTy).Contents (Elt F))) k (Shape.Idx.first h_S_)).toInt) sliceFits_S8448x512_S1x512) shapeCasts_S1x512_S512 j
      = lane x (j 0) k := by
  subst hw
  rw [WordCmp.dynamicSlice_eq_extract S1x512 x _ sliceFits_S8448x512_S1x512 ![k, 0] (by
      refine ⟨rfl, fun a => ?_⟩
      match a with
      | ⟨0, _⟩ => show k + 1 ≤ 8448; omega
      | ⟨1, _⟩ => show 0 + 512 ≤ 512; omega)
    (fun a => by
      match a with
      | ⟨0, _⟩ => show (BitVec.ofNat 32 k).toInt = (k : Int); exact WordCmp.toInt_ofNat_of_lt (by omega)
      | ⟨1, _⟩ => rfl)]
  refine (shapeCast_dropUnit_apply ![512] _ _ j).trans ?_
  refine lane_at x _ _ _ ?_ ?_
  · show k + 0 = k; rfl
  · show 0 + (j 0).val = _; omega

/-- A row put into an array by the counter. -/
theorem put_at (x : Vec F S8448x512 .f32) (u : Vec F S512 .f32) (w : (⟨S_, .i32⟩ : BufTy).Contents (Elt F)) (k : ℕ) (hk : k < 8448) (hw : w = fun _ => BitVec.ofNat 32 k) (y : S8448x512.Idx) :
    Host.dynamicUpdateSlice x (broadcastInDim S1x512 ![1] bcast_S512_S1x512_1 u) (fun k => (((![w, constantI S_ 32 0#32] : Fin 2 → (⟨S_, .i32⟩ : BufTy).Contents (Elt F))) k (Shape.Idx.first h_S_)).toInt) updateFits_S8448x512_S1x512 y
      = if (y 0).val = k then u (ix1 (y 1)) else x y := by
  subst hw
  rw [WordCmp.dynamicUpdateSlice_eq_update x _ _ updateFits_S8448x512_S1x512 ![k, 0] (by
      refine ⟨rfl, fun a => ?_⟩
      match a with
      | ⟨0, _⟩ => show k + 1 ≤ 8448; omega
      | ⟨1, _⟩ => show 0 + 512 ≤ 512; omega)
    (fun a => by
      match a with
      | ⟨0, _⟩ => show (BitVec.ofNat 32 k).toInt = (k : Int); exact WordCmp.toInt_ofNat_of_lt (by omega)
      | ⟨1, _⟩ => rfl)]
  unfold updateSlice
  have hy1 : (y 1).val < 512 := (y 1).isLt
  by_cases h : (y 0).val = k
  · rw [if_pos h, dif_pos (fun a => by
      match a with
      | ⟨0, _⟩ => show k ≤ (y 0).val ∧ (y 0).val < k + 1; omega
      | ⟨1, _⟩ => show 0 ≤ (y 1).val ∧ (y 1).val < 0 + 512; omega)]
    refine congrArg u (funext fun a => Fin.ext ?_)
    match a with
    | ⟨0, _⟩ => rfl
  · rw [if_neg h, dif_neg (fun hin => h (by have h0 : k ≤ (y 0).val ∧ (y 0).val < k + 1 := hin 0; omega))]

/-! ## The loop -/

abbrev entry (c : Dev nD) : Valuation τ sig (Elt F) := entryContents preI m c

theorem entry_0 (c : Dev nD) : entry m c (Proc.devRef .tc main_v13_0) = argA m c := by
  simp only [entry, entryContents, afterL_cons, afterL_nil]
  after_reads_simp
  rfl
theorem entry_1 (c : Dev nD) : entry m c (Proc.devRef .tc main_v13_1) = argB m c := by
  simp only [entry, entryContents, afterL_cons, afterL_nil]
  after_reads_simp
  rfl
theorem entry_2 (c : Dev nD) : entry m c (Proc.devRef .tc main_v13_2) = turned (argC m c) := by
  rw [← flips_eq]
  simp only [entry, entryContents, afterL_cons, afterL_nil]
  after_reads_simp
  rfl
theorem entry_3 (c : Dev nD) : entry m c (Proc.devRef .tc main_v13_3) = turned (argD m c) := by
  rw [← flips_eq]
  simp only [entry, entryContents, afterL_cons, afterL_nil]
  after_reads_simp
  rfl
theorem entry_5 (c : Dev nD) : entry m c (Proc.devRef .tc main_v13_5) = fun _ => zero := by
  simp only [entry, entryContents, afterL_cons, afterL_nil]
  after_reads_simp
  rfl
theorem entry_6 (c : Dev nD) : entry m c (Proc.devRef .tc main_v13_6) = fun _ => zero := by
  simp only [entry, entryContents, afterL_cons, afterL_nil]
  after_reads_simp
  rfl

/-- The contents before step `k`. -/
abbrev at_ (c : Dev nD) (k : ℕ) : Valuation τ sig (Elt F) := STEP^[k] (entry m c)

theorem at_succ (c : Dev nD) (k : ℕ) : at_ m c (k + 1) = STEP (at_ m c k) := Function.iterate_succ_apply' _ _ _

theorem in_0 (c : Dev nD) : ∀ k, at_ m c k (Proc.devRef .tc main_v13_0) = argA m c
  | 0 => entry_0 m c
  | k + 1 => by rw [at_succ, STEP_main_v13_0, in_0 c k]
theorem in_1 (c : Dev nD) : ∀ k, at_ m c k (Proc.devRef .tc main_v13_1) = argB m c
  | 0 => entry_1 m c
  | k + 1 => by rw [at_succ, STEP_main_v13_1, in_1 c k]
theorem in_2 (c : Dev nD) : ∀ k, at_ m c k (Proc.devRef .tc main_v13_2) = turned (argC m c)
  | 0 => entry_2 m c
  | k + 1 => by rw [at_succ, STEP_main_v13_2, in_2 c k]
theorem in_3 (c : Dev nD) : ∀ k, at_ m c k (Proc.devRef .tc main_v13_3) = turned (argD m c)
  | 0 => entry_3 m c
  | k + 1 => by rw [at_succ, STEP_main_v13_3, in_3 c k]

/-- The counter. -/
theorem counter (c : Dev nD) : ∀ k, at_ m c k (Proc.devRef .tc main_v13_4) = fun _ => BitVec.ofNat 32 k
  | 0 => ctr_entry m c
  | k + 1 => by
    rw [at_succ, STEP_main_v13_4]
    unfold step_main_v13_4
    rw [counter c k]
    funext _
    show BitVec.ofNat 32 k + 1#32 = BitVec.ofNat 32 (k + 1)
    rw [BitVec.ofNat_add]

theorem lane_turned (x : Vec F Seq .f32) (j : Fin 512) (k : ℕ) (hk : k < 8448) : lane (turned x) j k = lane x j (turn k) := by
  show lane x j (turn (k % 8448)) = _
  rw [Nat.mod_eq_of_lt hk]

/-- The new forward state of step `k`. -/
theorem next_f (c : Dev nD) (k : ℕ) (hk : k < 8448) (j : S512.Idx) :
    res_main_while0b_v24 (at_ m c k) j
      = FloatOps.addf (FloatOps.mulf (lane (argA m c) (j 0) k) (at_ m c k (Proc.devRef .tc main_v13_5) j)) (lane (argB m c) (j 0) k) := by
  unfold res_main_while0b_v24
  refine congrArg₂ FloatOps.addf (congrArg₂ FloatOps.mulf ?_ rfl) ?_
  · rw [in_0]; exact row_at _ _ k hk (counter m c k) j
  · rw [in_1]; exact row_at _ _ k hk (counter m c k) j

/-- The new backward state of step `k`. -/
theorem next_b (c : Dev nD) (k : ℕ) (hk : k < 8448) (j : S512.Idx) :
    res_main_while0b_v26 (at_ m c k) j
      = FloatOps.addf (FloatOps.mulf (lane (argC m c) (j 0) (turn k)) (at_ m c k (Proc.devRef .tc main_v13_6) j)) (lane (argD m c) (j 0) (turn k)) := by
  unfold res_main_while0b_v26
  refine congrArg₂ FloatOps.addf (congrArg₂ FloatOps.mulf ?_ rfl) ?_
  · rw [in_2]; exact (row_at _ _ k hk (counter m c k) j).trans (lane_turned _ _ _ hk)
  · rw [in_3]; exact (row_at _ _ k hk (counter m c k) j).trans (lane_turned _ _ _ hk)

/-- The carried states before step `k`. -/
theorem carried_f (c : Dev nD) (j : S512.Idx) : ∀ k, k ≤ 8448 → at_ m c k (Proc.devRef .tc main_v13_5) j
    = hrec zero (lane (argA m c) (j 0)) (lane (argB m c) (j 0)) k
  | 0, _ => congrFun (entry_5 m c) j
  | k + 1, hk => by
    rw [at_succ, STEP_main_v13_5]
    unfold step_main_v13_5
    refine (next_f m c k (by omega) j).trans ?_
    rw [carried_f c j k (by omega)]
    rfl
theorem carried_b (c : Dev nD) (j : S512.Idx) : ∀ k, k ≤ 8448 → at_ m c k (Proc.devRef .tc main_v13_6) j
    = hrec zero (fun n => lane (argC m c) (j 0) (turn n)) (fun n => lane (argD m c) (j 0) (turn n)) k
  | 0, _ => congrFun (entry_6 m c) j
  | k + 1, hk => by
    rw [at_succ, STEP_main_v13_6]
    unfold step_main_v13_6
    refine (next_b m c k (by omega) j).trans ?_
    rw [carried_b c j k (by omega)]
    rfl

/-- The stacked states before step `k`: the rows below `k`. -/
theorem stacked_f (c : Dev nD) (y : S8448x512.Idx) : ∀ k, k ≤ 8448 → (y 0).val < k → at_ m c k (Proc.devRef .tc main_v13_7) y
    = hrec zero (lane (argA m c) (y 1)) (lane (argB m c) (y 1)) ((y 0).val + 1)
  | 0, _, h => absurd h (Nat.not_lt_zero _)
  | k + 1, hk, h => by
    rw [at_succ, STEP_main_v13_7]
    unfold step_main_v13_7
    refine (put_at _ _ _ k (by omega) (counter m c k) y).trans ?_
    by_cases e : (y 0).val = k
    · rw [if_pos e, e, next_f m c k (by omega), carried_f m c _ k (by omega)]
      rfl
    · rw [if_neg e]
      exact stacked_f c y k (by omega) (by omega)
theorem stacked_b (c : Dev nD) (y : S8448x512.Idx) : ∀ k, k ≤ 8448 → (y 0).val < k → at_ m c k (Proc.devRef .tc main_v13_8) y
    = hrec zero (fun n => lane (argC m c) (y 1) (turn n)) (fun n => lane (argD m c) (y 1) (turn n)) ((y 0).val + 1)
  | 0, _, h => absurd h (Nat.not_lt_zero _)
  | k + 1, hk, h => by
    rw [at_succ, STEP_main_v13_8]
    unfold step_main_v13_8
    refine (put_at _ _ _ k (by omega) (counter m c k) y).trans ?_
    by_cases e : (y 0).val = k
    · rw [if_pos e, e, next_b m c k (by omega), carried_b m c _ k (by omega)]
      rfl
    · rw [if_neg e]
      exact stacked_b c y k (by omega) (by omega)

theorem out_f (c : Dev nD) : at_ m c 8448 (Proc.devRef .tc main_v13_7) = fwd (argA m c) (argB m c) :=
  funext fun y => stacked_f m c y 8448 le_rfl (y 0).isLt

theorem out_b (c : Dev nD) : out_main_v18 (at_ m c 8448) = bwd (argC m c) (argD m c) := by
  unfold out_main_v18
  refine (flips_eq _).trans (funext fun y => ?_)
  have hy : (y 0).val < 8448 := (y 0).isLt
  have ht := turn_lt hy
  refine (stacked_b m c (ix2 (Fin.ofNat 8448 (turn (y 0).val)) (y 1)) 8448 le_rfl (Fin.isLt _)).trans ?_
  show hrec zero _ _ (turn (y 0).val % 8448 + 1) = _
  rw [Nat.mod_eq_of_lt ht]
  rfl

/-- The run, read: both results, and the arguments unchanged. -/
theorem value : θ_run (defs (F := F)) (onTc (τ := τ) (main (F := F))) ⟨m, fun _ => 0, ρ⟩ fun r => ∀ c : Dev nD,
      r.2.mem ((c.tc : Thread nD τ).loc main_v13_7) = fwd (argA m c) (argB m c)
      ∧ r.2.mem ((c.tc : Thread nD τ).loc main_v18) = bwd (argC m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out_f m c), (h c).2.1.trans (out_b m c), (h c).2.2⟩) (run m ρ)

end Cert.ReferenceIdeal.Scan

end
-- ==== Proof.ColsValue.lean ====
/-
  The column projection's array, at the extended reals: every entry is a row of activations times a column of weights.
-/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Cols

open Cert.Kernel2Ideal Cert.Kernel2Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![t.val % 6, 0] ∧ win0_1.index t = ![0, 0, t.val / 6] ∧ win0_2.index t = ![t.val % 6, t.val / 6] :=
  (by decide +kernel : ∀ t : Fin grid0.N, _)

/-- The two argument arrays. -/
abbrev argH (c : Dev nD) : S8448x2048.Idx → EReal := m ((c.tc : Thread nD τ).loc main_arg0)
abbrev argW (c : Dev nD) : S2x2048x14336.Idx → EReal := m ((c.tc : Thread nD τ).loc main_arg1)

/-- The projection: activations `h` times the first layer's weights. -/
def proj (h : S8448x2048.Idx → EReal) (w : S2x2048x14336.Idx → EReal) : S8448x6144.Idx → EReal := fun i =>
  ∑ k : Fin 2048, h (ix2 (i 0) k) * w (ix3 0 k ⟨(i 1).val, lt_trans (i 1).isLt (by decide)⟩)

theorem point_lt (t : Fin cfg0.N) : t.val < 36 := lt_of_lt_of_eq t.isLt N_0

/-- The weights a point holds: columns `1024 * (t / 6)` on. -/
theorem weights_at (c : Dev nD) (t : Fin cfg0.N) (k : Fin 2048) (q : Fin 1024) :
    k0_pay1 (iblk m c 1 t) (ix2 k q)
      = argW m c (ix3 0 k ⟨1024 * (t.val / 6) + q.val, by have := point_lt t; omega⟩) := by
  have hw := windows t
  pointwise [k0_pay1]
  blk_ext [iblk, V, hw]

/-- The rows a point holds: rows `1408 * (t % 6)` on. -/
theorem rows_at (c : Dev nD) (t : Fin cfg0.N) (r : Fin 1408) (k : Fin 2048) :
    (iblk m c 0 t : FVec Ideal S1408x2048 .bf16) (ix2 r k)
      = argH m c (ix2 ⟨1408 * (t.val % 6) + r.val, by omega⟩ k) := by
  have hw := windows t
  blk_ext [iblk, V, hw]

theorem product_at (x : S1408x2048.Idx → EReal) (s : S2048x1024.Idx → EReal) (r : Fin 1408) (q : Fin 1024) :
    (k0_pay2 (F := Ideal) x s (ix2 r q) : EReal) = ∑ k : Fin 2048, x (ix2 r k) * s (ix2 k q) := by
  pointwise [k0_pay2]

/-- The weights kept from point to point. -/
theorem kept_at (c : Dev nD) (k : Fin 2048) (q : Fin 1024) : ∀ (n : ℕ) (hn : n < cfg0.N),
    (outsAt0 m c n hn).2 (ix2 k q)
      = argW m c (ix3 0 k ⟨1024 * (n / 6) + q.val, by have := point_lt ⟨n, hn⟩; simp only at this; omega⟩)
  | n, hn => by
    by_cases h0 : n % 6 = 0
    · rw [outsAt0_A m c ⟨n, hn⟩ h0]
      frame_out
      exact weights_at m c ⟨n, hn⟩ k q
    · rw [outsAt0_B m c ⟨n, hn⟩ h0]
      have hlt : n - 1 < n := by omega
      have ih := kept_at c k q (n - 1) (by omega)
      frame_out
      have e : (n - 1) / 6 = n / 6 := by omega
      simp only [e] at ih
      exact ih

theorem out_at (c : Dev nD) (t : Fin cfg0.N) (r : Fin 1408) (q : Fin 1024) :
    (outsAt0 m c t.val t.isLt).1 (ix2 r q)
      = ∑ k : Fin 2048, argH m c (ix2 ⟨1408 * (t.val % 6) + r.val, by omega⟩ k)
          * argW m c (ix3 0 k ⟨1024 * (t.val / 6) + q.val, by have := point_lt t; omega⟩) := by
  by_cases h0 : t.val % 6 = 0
  · rw [outsAt0_A m c t h0]
    frame_out
    rw [product_at]
    exact Finset.sum_congr rfl fun k _ => congrArg₂ (· * ·) (rows_at m c t r k) (weights_at m c t k q)
  · have hk := fun k => kept_at m c k q (t.val - 1) (Nat.lt_of_le_of_lt (Nat.sub_le _ _) t.isLt)
    have e : (t.val - 1) / 6 = t.val / 6 := by omega
    simp only [e] at hk
    rw [outsAt0_B m c t h0]
    frame_out
    simp only [read_unread_whole]
    rw [product_at]
    exact Finset.sum_congr rfl fun k _ => congrArg₂ (· * ·) (rows_at m c t r k) (hk k)

/-- The array the kernel leaves. -/
theorem result (c : Dev nD) : (dats m 0 c).arrAt 2 cfg0.N
    = proj (argH m c) (argW m c) := by
  refine (dats m 0 c).arrAt_eq_of_covers 2 _ (by decide +kernel) fun t hf y => ?_
  have hw := windows t
  blk_simp
  rw [after0_2]
  have hy : (y : S1408x1024.Idx) = ix2 (y 0) (y 1) := by funext a; match a with | ⟨0, _⟩ => rfl | ⟨1, _⟩ => rfl
  refine (congrArg (outsAt0 m c t.val t.isLt).1 hy).trans ((out_at m c t (y 0) (y 1)).trans ?_)
  unfold proj
  refine Finset.sum_congr rfl fun k _ => ?_
  congr 1 <;> blk_ext [hw]

theorem value : θ_run defs (onTc (τ := τ) (main (F := Ideal))) ⟨m, fun _ => 0, ρ⟩ (fun r => ∀ c : Dev nD,
      r.2.mem ((c.tc : Thread nD τ).loc main_v1)
        = proj (argH m c) (argW m c)) :=
  (θ_run defs _ _).mono (fun _ h c => (h c).1.trans (result m c)) (Value.run_blocks m ρ)

end Cert.Kernel2Ideal.Cols

end
-- ==== Proof.ColsEqual.lean ====
/-
  The column projection: the kernel's array is the one of the reference.
-/
module

public import proofs.«01_k».proof.Defs
public import proofs.«01_k».proof.Proof.ColsValue
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read

@[expose] public section

set_option maxRecDepth 16384

noncomputable section

namespace Cert.Proof.Cols

open Idealize.ShloMosaic Idealize.ShloMosaic.TcCoe Idealize.ShloMosaic.Tactic
open Idealize.SL.Sem
open Cert.Reference2Ideal

theorem reference_at (h : S8448x2048.Idx → EReal) (w : S2x2048x14336.Idx → EReal) :
    Read.val_main_v3 (F := Ideal) h w = Cert.Kernel2Ideal.Cols.proj h w := by
  funext i
  rw [Read.val_main_v3_apply, Read.val_main_v2_apply]
  refine Finset.sum_congr rfl fun k _ => ?_
  rw [Read.val_main_v1_apply, Read.val_main_v0_apply]
  congr 1 <;> blk_ext []

theorem frame_reference : @Cert.quiescent_Reference2Ideal Cert.Reference2Ideal.Gen.facts := fun m g _ =>
  (θ_run Cert.Reference2Ideal.defs _ _).mono (fun _ h => ⟨fun c => (h c).2, sem_eq_zero_of_no_sems rfl _⟩) (Cert.Reference2Ideal.Value.run m g)

theorem algebraic : @Cert.algebraic_Kernel2Ideal_Reference2Ideal Cert.Kernel2Ideal.Gen.facts Cert.Reference2Ideal.Gen.facts := fun m g m' g' _ e => by
  refine ⟨fun c => Cert.Kernel2Ideal.Cols.proj (Cert.Kernel2Ideal.Cols.argH m c) (Cert.Kernel2Ideal.Cols.argW m c), ?_, ?_⟩
  · exact (θ_run Cert.Kernel2Ideal.defs _ _).mono (fun _ h c => ⟨h.1 c, h.2.1 c⟩)
      (θ_run_and (Cert.Kernel2Ideal.Cols.value m g) (Cert.Kernel2Ideal.Gen.frame m g))
  · refine (θ_run Cert.Reference2Ideal.defs _ _).mono (fun _ h c => ⟨?_, (h c).2⟩) (Cert.Reference2Ideal.Value.run m' g')
    obtain ⟨e0, e1⟩ := e c
    rw [(h c).1, Read.val_main_v3_eq, e0, e1]
    exact reference_at _ _

end Cert.Proof.Cols

end
-- ==== Proof.GatesValue.lean ====
/-
  The gates: the array, at the extended reals: every entry is a row of activations times a column of weights.
-/
module

public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Gates

open Cert.Kernel3Ideal Cert.Kernel3Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![t.val % 6, 0] ∧ win0_1.index t = ![0, 0, t.val / 6 + 6] ∧ win0_2.index t = ![t.val % 6, t.val / 6] :=
  (by decide +kernel : ∀ t : Fin grid0.N, _)

/-- The two argument arrays. -/
abbrev argH (c : Dev nD) : S8448x2048.Idx → EReal := m ((c.tc : Thread nD τ).loc main_arg0)
abbrev argW (c : Dev nD) : S2x2048x14336.Idx → EReal := m ((c.tc : Thread nD τ).loc main_arg1)

/-- The gates: the logistic of activations `h` times the first layer's weights. -/
def gate (h : S8448x2048.Idx → EReal) (w : S2x2048x14336.Idx → EReal) : S8448x8192.Idx → EReal := fun i =>
  Ideal.logistic (∑ k : Fin 2048, h (ix2 (i 0) k) * w (ix3 0 k ⟨6144 + (i 1).val, Nat.add_lt_add_left (i 1).isLt 6144⟩))

theorem point_lt (t : Fin cfg0.N) : t.val < 48 := lt_of_lt_of_eq t.isLt N_0

/-- The weights a point holds: columns `6144 + 1024 * (t / 6)` on. -/
theorem weights_at (c : Dev nD) (t : Fin cfg0.N) (k : Fin 2048) (q : Fin 1024) :
    k0_pay1 (iblk m c 1 t) (ix2 k q)
      = argW m c (ix3 0 k ⟨6144 + (1024 * (t.val / 6) + q.val), by have := point_lt t; omega⟩) := by
  have hw := windows t
  pointwise [k0_pay1]
  blk_ext [iblk, V, hw]

/-- The rows a point holds: rows `1408 * (t % 6)` on. -/
theorem rows_at (c : Dev nD) (t : Fin cfg0.N) (r : Fin 1408) (k : Fin 2048) :
    (iblk m c 0 t : FVec Ideal S1408x2048 .bf16) (ix2 r k)
      = argH m c (ix2 ⟨1408 * (t.val % 6) + r.val, by omega⟩ k) := by
  have hw := windows t
  blk_ext [iblk, V, hw]

theorem product_at (x : S1408x2048.Idx → EReal) (s : S2048x1024.Idx → EReal) (r : Fin 1408) (q : Fin 1024) :
    (k0_pay2 (F := Ideal) x s (ix2 r q) : EReal) = Ideal.logistic (∑ k : Fin 2048, x (ix2 r k) * s (ix2 k q)) := by
  pointwise [k0_pay2]

/-- The weights kept from point to point. -/
theorem kept_at (c : Dev nD) (k : Fin 2048) (q : Fin 1024) : ∀ (n : ℕ) (hn : n < cfg0.N),
    (outsAt0 m c n hn).2 (ix2 k q)
      = argW m c (ix3 0 k ⟨6144 + (1024 * (n / 6) + q.val), by have := point_lt ⟨n, hn⟩; simp only at this; omega⟩)
  | n, hn => by
    by_cases h0 : n % 6 = 0
    · rw [outsAt0_A m c ⟨n, hn⟩ h0]
      frame_out
      exact weights_at m c ⟨n, hn⟩ k q
    · rw [outsAt0_B m c ⟨n, hn⟩ h0]
      have hlt : n - 1 < n := by omega
      have ih := kept_at c k q (n - 1) (by omega)
      frame_out
      have e : (n - 1) / 6 = n / 6 := by omega
      simp only [e] at ih
      exact ih

theorem out_at (c : Dev nD) (t : Fin cfg0.N) (r : Fin 1408) (q : Fin 1024) :
    (outsAt0 m c t.val t.isLt).1 (ix2 r q)
      = Ideal.logistic (∑ k : Fin 2048, argH m c (ix2 ⟨1408 * (t.val % 6) + r.val, by omega⟩ k)
          * argW m c (ix3 0 k ⟨6144 + (1024 * (t.val / 6) + q.val), by have := point_lt t; omega⟩)) := by
  by_cases h0 : t.val % 6 = 0
  · rw [outsAt0_A m c t h0]
    frame_out
    rw [product_at]
    refine congrArg Ideal.logistic (Finset.sum_congr rfl fun k _ => ?_)
    exact congrArg₂ (· * ·) (rows_at m c t r k) (weights_at m c t k q)
  · have hk := fun k => kept_at m c k q (t.val - 1) (Nat.lt_of_le_of_lt (Nat.sub_le _ _) t.isLt)
    have e : (t.val - 1) / 6 = t.val / 6 := by omega
    simp only [e] at hk
    rw [outsAt0_B m c t h0]
    frame_out
    simp only [read_unread_whole]
    rw [product_at]
    refine congrArg Ideal.logistic (Finset.sum_congr rfl fun k _ => ?_)
    exact congrArg₂ (· * ·) (rows_at m c t r k) (hk k)

/-- The array the kernel leaves. -/
theorem result (c : Dev nD) : (dats m 0 c).arrAt 2 cfg0.N
    = gate (argH m c) (argW m c) := by
  refine (dats m 0 c).arrAt_eq_of_covers 2 _ (by decide +kernel) fun t hf y => ?_
  have hw := windows t
  blk_simp
  rw [after0_2]
  have hy : (y : S1408x1024.Idx) = ix2 (y 0) (y 1) := by funext a; match a with | ⟨0, _⟩ => rfl | ⟨1, _⟩ => rfl
  refine (congrArg (outsAt0 m c t.val t.isLt).1 hy).trans ((out_at m c t (y 0) (y 1)).trans ?_)
  unfold gate
  refine congrArg Ideal.logistic (Finset.sum_congr rfl fun k _ => ?_)
  congr 1 <;> blk_ext [hw]

theorem value : θ_run defs (onTc (τ := τ) (main (F := Ideal))) ⟨m, fun _ => 0, ρ⟩ (fun r => ∀ c : Dev nD,
      r.2.mem ((c.tc : Thread nD τ).loc main_v1)
        = gate (argH m c) (argW m c)) :=
  (θ_run defs _ _).mono (fun _ h c => (h c).1.trans (result m c)) (Value.run_blocks m ρ)

end Cert.Kernel3Ideal.Gates

end
-- ==== Proof.GatesEqual.lean ====
/-
  The gates: the kernel's array is the one of the reference.
-/
module

public import proofs.«01_k».proof.Defs
public import proofs.«01_k».proof.Proof.GatesValue
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read

@[expose] public section

set_option maxRecDepth 16384

noncomputable section

namespace Cert.Proof.Gates

open Idealize.ShloMosaic Idealize.ShloMosaic.TcCoe Idealize.ShloMosaic.Tactic
open Idealize.SL.Sem
open Cert.Reference3Ideal

theorem reference_at (h : S8448x2048.Idx → EReal) (w : S2x2048x14336.Idx → EReal) :
    Read.val_main_v10 (F := Ideal) h w = Cert.Kernel3Ideal.Gates.gate h w := by
  funext i
  have e : Read.val_main_v3 (F := Ideal) h w i
      = ∑ k : Fin 2048, h (ix2 (i 0) k) * w (ix3 0 k ⟨6144 + (i 1).val, Nat.add_lt_add_left (i 1).isLt 6144⟩) := by
    rw [Read.val_main_v3_apply, Read.val_main_v2_apply]
    refine Finset.sum_congr rfl fun k _ => ?_
    rw [Read.val_main_v1_apply, Read.val_main_v0_apply]
    congr 1 <;> blk_ext []
  rw [Read.val_main_v10_apply, Read.val_main_v9_apply, Read.val_main_v8_apply, Read.val_main_v7_apply, Read.val_main_v6_apply,
    Read.val_main_v5_apply, Read.val_main_v4_apply, Read.val_main_cst_apply, Read.val_main_cst_0_apply, e]
  unfold Cert.Kernel3Ideal.Gates.gate Ideal.logistic
  simp

theorem frame_reference : @Cert.quiescent_Reference3Ideal Cert.Reference3Ideal.Gen.facts := fun m g _ =>
  (θ_run Cert.Reference3Ideal.defs _ _).mono (fun _ h => ⟨fun c => (h c).2, sem_eq_zero_of_no_sems rfl _⟩) (Cert.Reference3Ideal.Value.run m g)

theorem algebraic : @Cert.algebraic_Kernel3Ideal_Reference3Ideal Cert.Kernel3Ideal.Gen.facts Cert.Reference3Ideal.Gen.facts := fun m g m' g' _ e => by
  refine ⟨fun c => Cert.Kernel3Ideal.Gates.gate (Cert.Kernel3Ideal.Gates.argH m c) (Cert.Kernel3Ideal.Gates.argW m c), ?_, ?_⟩
  · exact (θ_run Cert.Kernel3Ideal.defs _ _).mono (fun _ h c => ⟨h.1 c, h.2.1 c⟩)
      (θ_run_and (Cert.Kernel3Ideal.Gates.value m g) (Cert.Kernel3Ideal.Gen.frame m g))
  · refine (θ_run Cert.Reference3Ideal.defs _ _).mono (fun _ h c => ⟨?_, (h c).2⟩) (Cert.Reference3Ideal.Value.run m' g')
    obtain ⟨e0, e1⟩ := e c
    rw [(h c).1, Read.val_main_v10_eq, e0, e1]
    exact reference_at _ _

end Cert.Proof.Gates

end
-- ==== Proof.MergeValue.lean ====
/-
  The merge's array, at the extended reals: the four branches' projections, each times its gates, added up.
-/
module

public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0, 0] ∧ win0_6.index t = ![t.val, 0] :=
  (by decide +kernel : ∀ t : Fin grid0.N, _)

/-- The six argument arrays. -/
abbrev argY (c : Dev nD) : Fin 4 → S8448x512.Idx → EReal :=
  ![m ((c.tc : Thread nD τ).loc main_arg0), m ((c.tc : Thread nD τ).loc main_arg1), m ((c.tc : Thread nD τ).loc main_arg2), m ((c.tc : Thread nD τ).loc main_arg3)]
abbrev argG (c : Dev nD) : S8448x8192.Idx → EReal := m ((c.tc : Thread nD τ).loc main_arg4)
abbrev argW (c : Dev nD) : S2x4x512x2048.Idx → EReal := m ((c.tc : Thread nD τ).loc main_arg5)

/-- Branch `b`'s projection at row `r`, column `d`. -/
def branch (y : S8448x512.Idx → EReal) (w : S2x4x512x2048.Idx → EReal) (b : Fin 4) (r : Fin 8448) (d : Fin 2048) : EReal :=
  ∑ k : Fin 512, y (ix2 r k) * w (ix4 0 b k d)

/-- The merge of branches `y` under gates `g`. -/
def merged (y : Fin 4 → S8448x512.Idx → EReal) (g : S8448x8192.Idx → EReal) (w : S2x4x512x2048.Idx → EReal) : S8448x2048.Idx → EReal := fun i =>
  ∑ b : Fin 4, g (ix2 (i 0) ⟨2048 * b.val + (i 1).val, by have := (i 1).isLt; have : (i 1).val < 2048 := this; omega⟩) * branch (y b) w b (i 0) (i 1)

theorem point_lt (t : Fin cfg0.N) : t.val < 33 := lt_of_lt_of_eq t.isLt N_0

theorem out_at (c : Dev nD) (t : Fin cfg0.N) (r : Fin 256) (d : Fin 2048) :
    (out0_6 (F := Ideal) (iblk m c 0 t) (iblk m c 1 t) (iblk m c 2 t) (iblk m c 3 t) (iblk m c 4 t) (iblk m c 5 t) (ix2 r d) : EReal)
      = merged (argY m c) (argG m c) (argW m c) (ix2 ⟨256 * t.val + r.val, by have := point_lt t; omega⟩ d) := by
  have hw := windows t
  frame_out
  unfold merged branch
  rw [Fin.sum_univ_four]
  pointwise [k0_pay1, k0_pay2, k0_pay3]
  dsimp only [argG, argW]
  blk_point [iblk, V, hw]

/-- The array the kernel leaves. -/
theorem result (c : Dev nD) : (dats m 0 c).arrAt 6 cfg0.N = merged (argY m c) (argG m c) (argW m c) := by
  refine (dats m 0 c).arrAt_eq_of_covers 6 _ (by decide +kernel) fun t hf y => ?_
  have hw := windows t
  blk_simp
  rw [after0_6]
  have hy : (y : S256x2048.Idx) = ix2 (y 0) (y 1) := by funext a; match a with | ⟨0, _⟩ => rfl | ⟨1, _⟩ => rfl
  refine (congrArg (out0_6 (F := Ideal) _ _ _ _ _ _) hy).trans ((out_at m c t (y 0) (y 1)).trans ?_)
  blk_ext [hw]

theorem value : θ_run defs (onTc (τ := τ) (main (F := Ideal))) ⟨m, fun _ => 0, ρ⟩ (fun r => ∀ c : Dev nD,
      r.2.mem ((c.tc : Thread nD τ).loc main_v8) = merged (argY m c) (argG m c) (argW m c)) :=
  (θ_run defs _ _).mono (fun _ h c => (h c).1.trans (result m c)) (Value.run_blocks m ρ)

end Cert.Kernel4Ideal.Merge

end
-- ==== Proof.MergeEqual.lean ====
/-
  The merge: the kernel's array is the one of the reference.
-/
module

public import proofs.«01_k».proof.Defs
public import proofs.«01_k».proof.Proof.MergeValue
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read

@[expose] public section

set_option maxRecDepth 16384

noncomputable section

namespace Cert.Proof.Merge

open Idealize.ShloMosaic Idealize.ShloMosaic.TcCoe Idealize.ShloMosaic.Tactic
open Idealize.SL.Sem
open Cert.Reference4Ideal

theorem reference_at (y : Fin 4 → S8448x512.Idx → EReal) (g : S8448x8192.Idx → EReal) (w : S2x4x512x2048.Idx → EReal) :
    Read.val_main_v12 (F := Ideal) (y 0) (y 1) (y 2) (y 3) g w = Cert.Kernel4Ideal.Merge.merged y g w := by
  funext i
  rw [Read.val_main_v12_apply, Read.val_main_v11_apply, Read.val_main_cst_apply]
  unfold Cert.Kernel4Ideal.Merge.merged Cert.Kernel4Ideal.Merge.branch
  simp only [Ideal.truncf_def, Ideal.ofBits_zero_f32, zero_add, FloatOps.ofBits]
  refine Finset.sum_congr rfl fun b _ => ?_
  rw [Read.val_main_v10_apply, Read.val_main_v9_apply, Read.val_main_v8_apply, Read.val_main_v7_apply]
  refine congrArg₂ (· * ·) ?_ (Finset.sum_congr rfl fun k _ => ?_)
  · blk_ext []
  · rw [Read.val_main_v6_apply, Read.val_main_v5_apply, mul_comm]
    unfold Read.val_main_v4
    refine congrArg₂ (· * ·) ?_ ?_
    · pointwise [Read.val_main_v0, Read.val_main_v1, Read.val_main_v2, Read.val_main_v3]
      fin_vals b with hb
      all_goals simp only [hb, Nat.reduceSub, Nat.reduceLT, ↓reduceDIte]
      all_goals exact congrArg (fun b => y b (ix2 (i 0) k)) (Fin.ext hb.symm)
    · blk_ext []

theorem frame_reference : @Cert.quiescent_Reference4Ideal Cert.Reference4Ideal.Gen.facts := fun m g _ =>
  (θ_run Cert.Reference4Ideal.defs _ _).mono (fun _ h => ⟨fun c => (h c).2, sem_eq_zero_of_no_sems rfl _⟩) (Cert.Reference4Ideal.Value.run m g)

theorem algebraic : @Cert.algebraic_Kernel4Ideal_Reference4Ideal Cert.Kernel4Ideal.Gen.facts Cert.Reference4Ideal.Gen.facts := fun m g m' g' _ e => by
  refine ⟨fun c => Cert.Kernel4Ideal.Merge.merged (Cert.Kernel4Ideal.Merge.argY m c) (Cert.Kernel4Ideal.Merge.argG m c) (Cert.Kernel4Ideal.Merge.argW m c), ?_, ?_⟩
  · exact (θ_run Cert.Kernel4Ideal.defs _ _).mono (fun _ h c => ⟨h.1 c, h.2.1 c⟩)
      (θ_run_and (Cert.Kernel4Ideal.Merge.value m g) (Cert.Kernel4Ideal.Gen.frame m g))
  · refine (θ_run Cert.Reference4Ideal.defs _ _).mono (fun _ h c => ⟨?_, (h c).2⟩) (Cert.Reference4Ideal.Value.run m' g')
    obtain ⟨e0, e1, e2, e3, e4, e5⟩ := e c
    rw [(h c).1, Read.val_main_v12_eq, e0, e1, e2, e3, e4, e5]
    exact reference_at (Cert.Kernel4Ideal.Merge.argY m c) _ _

end Cert.Proof.Merge

end
-- ==== Proof.OutValue.lean ====
/-
  The output projection's array, at the extended reals: the residual plus a gate times a row of activations times a column of weights.
-/
module

public import proofs.«01_k».proof.Proof.Gen.Kernel5Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Out

open Cert.Kernel5Ideal Cert.Kernel5Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- The stream of row `n`: the first 256 rows are one, the others the second. -/
def stream (n : ℕ) : Fin 2 := if n < 256 then 0 else 1

theorem windows : ∀ t : Fin cfg0.N, win0_0.index t = ![t.val % 33, 0] ∧ win0_1.index t = ![0, 0, t.val / 33] ∧ win0_2.index t = ![t.val % 33, t.val / 33]
    ∧ win0_3.index t = ![if t.val % 33 = 0 then 0 else 1, 0, t.val / 33] ∧ win0_4.index t = ![t.val % 33, t.val / 33] :=
  (by decide +kernel : ∀ t : Fin grid0.N, _)

/-- The four argument arrays. -/
abbrev argH (c : Dev nD) : S8448x2048.Idx → EReal := m ((c.tc : Thread nD τ).loc main_arg0)
abbrev argW (c : Dev nD) : S2x2048x2048.Idx → EReal := m ((c.tc : Thread nD τ).loc main_arg1)

abbrev argX (c : Dev nD) : S8448x2048.Idx → EReal := m ((c.tc : Thread nD τ).loc main_arg2)
abbrev argM (c : Dev nD) : S2x8x2048.Idx → EReal := m ((c.tc : Thread nD τ).loc main_arg3)

/-- The projection of `h` by the first layer's weights, gated by row 2 of its stream's modulation and added to the residual. -/
def proj (h : S8448x2048.Idx → EReal) (w : S2x2048x2048.Idx → EReal) (x : S8448x2048.Idx → EReal) (g : S2x8x2048.Idx → EReal) : S8448x2048.Idx → EReal := fun i =>
  x i + g (ix3 (stream (i 0).val) 2 (i 1)) * ∑ k : Fin 2048, h (ix2 (i 0) k) * w (ix3 0 k (i 1))

theorem point_lt (t : Fin cfg0.N) : t.val < 66 := lt_of_lt_of_eq t.isLt N_0

/-- The weights a point holds: columns `1024 * (t / 33)` on. -/
theorem weights_at (c : Dev nD) (t : Fin cfg0.N) (k : Fin 2048) (q : Fin 1024) :
    k0_pay1 (iblk m c 1 t) (ix2 k q)
      = argW m c (ix3 0 k ⟨1024 * (t.val / 33) + q.val, by have := point_lt t; omega⟩) := by
  have hw := windows t
  pointwise [k0_pay1]
  blk_ext [iblk, V, hw]

/-- The rows a point holds: rows `256 * (t % 33)` on. -/
theorem rows_at (c : Dev nD) (t : Fin cfg0.N) (r : Fin 256) (k : Fin 2048) :
    (iblk m c 0 t : FVec Ideal S256x2048 .bf16) (ix2 r k)
      = argH m c (ix2 ⟨256 * (t.val % 33) + r.val, by omega⟩ k) := by
  have hw := windows t
  blk_ext [iblk, V, hw]

/-- The residual a point holds. -/
theorem residual_at (c : Dev nD) (t : Fin cfg0.N) (r : Fin 256) (q : Fin 1024) :
    (iblk m c 2 t : S256x1024.Idx → EReal) (ix2 r q)
      = argX m c (ix2 ⟨256 * (t.val % 33) + r.val, by omega⟩ ⟨1024 * (t.val / 33) + q.val, by have := point_lt t; omega⟩) := by
  have hw := windows t
  blk_ext [iblk, V, hw]

/-- The gate a point holds. -/
theorem gate_at (c : Dev nD) (t : Fin cfg0.N) (q : Fin 1024) :
    (iblk m c 3 t : S1x1x1024.Idx → EReal) (ix3 0 0 q)
      = argM m c (ix3 (if t.val % 33 = 0 then 0 else 1) 2 ⟨1024 * (t.val / 33) + q.val, by have := point_lt t; omega⟩) := by
  have hw := windows t
  by_cases h : t.val % 33 = 0
  · simp only [h, if_true] at hw ⊢
    unfold iblk
    blk_simp
    entry_read
    pointwise
    blk_ext [hw]
  · simp only [h, if_false] at hw ⊢
    unfold iblk
    blk_simp
    entry_read
    pointwise
    blk_ext [hw]

theorem product_at (x : S256x2048.Idx → EReal) (s : S2048x1024.Idx → EReal) (y : S256x1024.Idx → EReal) (g : S1x1x1024.Idx → EReal) (r : Fin 256) (q : Fin 1024) :
    (k0_pay2 (F := Ideal) x s y g (ix2 r q) : EReal) = y (ix2 r q) + g (ix3 0 0 q) * ∑ k : Fin 2048, x (ix2 r k) * s (ix2 k q) := by
  pointwise [k0_pay2]

/-- The weights kept from point to point. -/
theorem kept_at (c : Dev nD) (k : Fin 2048) (q : Fin 1024) : ∀ (n : ℕ) (hn : n < cfg0.N),
    (outsAt0 m c n hn).2 (ix2 k q)
      = argW m c (ix3 0 k ⟨1024 * (n / 33) + q.val, by have := point_lt ⟨n, hn⟩; simp only at this; omega⟩)
  | n, hn => by
    by_cases h0 : n % 33 = 0
    · rw [outsAt0_A m c ⟨n, hn⟩ h0]
      frame_out
      exact weights_at m c ⟨n, hn⟩ k q
    · rw [outsAt0_B m c ⟨n, hn⟩ h0]
      have hlt : n - 1 < n := by omega
      have ih := kept_at c k q (n - 1) (by omega)
      frame_out
      have e : (n - 1) / 33 = n / 33 := by omega
      simp only [e] at ih
      exact ih

theorem out_at (c : Dev nD) (t : Fin cfg0.N) (r : Fin 256) (q : Fin 1024) :
    (outsAt0 m c t.val t.isLt).1 (ix2 r q)
      = argX m c (ix2 ⟨256 * (t.val % 33) + r.val, by omega⟩ ⟨1024 * (t.val / 33) + q.val, by have := point_lt t; omega⟩)
        + argM m c (ix3 (if t.val % 33 = 0 then 0 else 1) 2 ⟨1024 * (t.val / 33) + q.val, by have := point_lt t; omega⟩)
          * ∑ k : Fin 2048, argH m c (ix2 ⟨256 * (t.val % 33) + r.val, by omega⟩ k)
              * argW m c (ix3 0 k ⟨1024 * (t.val / 33) + q.val, by have := point_lt t; omega⟩) := by
  by_cases h0 : t.val % 33 = 0
  · rw [outsAt0_A m c t h0]
    frame_out
    rw [product_at]
    refine congrArg₂ (· + ·) (residual_at m c t r q) (congrArg₂ (· * ·) (gate_at m c t q) ?_)
    exact Finset.sum_congr rfl fun k _ => congrArg₂ (· * ·) (rows_at m c t r k) (weights_at m c t k q)
  · have hk := fun k => kept_at m c k q (t.val - 1) (Nat.lt_of_le_of_lt (Nat.sub_le _ _) t.isLt)
    have e : (t.val - 1) / 33 = t.val / 33 := by omega
    simp only [e] at hk
    rw [outsAt0_B m c t h0]
    frame_out
    simp only [read_unread_whole]
    rw [product_at]
    refine congrArg₂ (· + ·) (residual_at m c t r q) (congrArg₂ (· * ·) (gate_at m c t q) ?_)
    exact Finset.sum_congr rfl fun k _ => congrArg₂ (· * ·) (rows_at m c t r k) (hk k)

/-- The array the kernel leaves. -/
theorem result (c : Dev nD) : (dats m 0 c).arrAt 4 cfg0.N
    = proj (argH m c) (argW m c) (argX m c) (argM m c) := by
  refine (dats m 0 c).arrAt_eq_of_covers 4 _ (by decide +kernel) fun t hf y => ?_
  have hw := windows t
  blk_simp
  rw [after0_4]
  have hy : (y : S256x1024.Idx) = ix2 (y 0) (y 1) := by funext a; match a with | ⟨0, _⟩ => rfl | ⟨1, _⟩ => rfl
  refine (congrArg (outsAt0 m c t.val t.isLt).1 hy).trans ((out_at m c t (y 0) (y 1)).trans ?_)
  unfold proj
  refine congrArg₂ (· + ·) ?_ (congrArg₂ (· * ·) ?_ (Finset.sum_congr rfl fun k _ => ?_))
  · blk_ext [hw]
  · have hy0 : (y 0).val < 256 := (y 0).isLt
    have h0 : ((win0_4.blk t).view.emb y 0).val = 256 * (t.val % 33) + (y 0).val := by
      show win0_4.index t 0 * 256 + 1 * (y 0).val = _
      rw [hw.2.2.2.2]; show t.val % 33 * 256 + 1 * (y 0).val = _; omega
    have hs : (if t.val % 33 = 0 then (0 : Fin 2) else 1) = stream ((win0_4.blk t).view.emb y 0).val := by
      rw [h0]; unfold stream
      by_cases h : t.val % 33 = 0
      · rw [if_pos h, if_pos (by omega)]
      · rw [if_neg h, if_neg (by omega)]
    rw [hs]
    blk_ext [hw]
  · congr 1 <;> blk_ext [hw]

theorem value : θ_run defs (onTc (τ := τ) (main (F := Ideal))) ⟨m, fun _ => 0, ρ⟩ (fun r => ∀ c : Dev nD,
      r.2.mem ((c.tc : Thread nD τ).loc main_v2)
        = proj (argH m c) (argW m c) (argX m c) (argM m c)) :=
  (θ_run defs _ _).mono (fun _ h c => (h c).1.trans (result m c)) (Value.run_blocks m ρ)

end Cert.Kernel5Ideal.Out

end
-- ==== Proof.OutEqual.lean ====
/-
  The output projection: the kernel's array is the one of the reference.
-/
module

public import proofs.«01_k».proof.Defs
public import proofs.«01_k».proof.Proof.OutValue
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read

@[expose] public section

set_option maxRecDepth 16384

noncomputable section

namespace Cert.Proof.Out

open Idealize.ShloMosaic Idealize.ShloMosaic.TcCoe Idealize.ShloMosaic.Tactic
open Idealize.SL.Sem
open Cert.Reference5Ideal

theorem reference_at (h : S8448x2048.Idx → EReal) (w : S2x2048x2048.Idx → EReal) (x : S8448x2048.Idx → EReal) (g : S2x8x2048.Idx → EReal) :
    Read.val_main_v19 (F := Ideal) h w x g = Cert.Kernel5Ideal.Out.proj h w x g := by
  funext i
  have e : ∀ j : S8448x2048.Idx, Read.val_main_v2 (F := Ideal) h w j = ∑ k : Fin 2048, h (ix2 (j 0) k) * w (ix3 0 k (j 1)) := fun j => by
    rw [Read.val_main_v2_apply]
    refine Finset.sum_congr rfl fun k _ => ?_
    rw [Read.val_main_v1_apply, Read.val_main_v0_apply]
    congr 1 <;> blk_ext []
  unfold Read.val_main_v19
  pointwise
  unfold Cert.Kernel5Ideal.Out.proj Cert.Kernel5Ideal.Out.stream
  split <;> rename_i hi
  · rw [Read.val_main_v10_apply, Read.val_main_v9_apply, Read.val_main_v8_apply, Read.val_main_v7_apply, Read.val_main_v6_apply,
      Read.val_main_v5_apply, Read.val_main_v4_apply, Read.val_main_v3_apply, e]
    refine congrArg₂ (· + ·) ?_ (congrArg₂ (· * ·) ?_ (Finset.sum_congr rfl fun k _ => ?_))
    · blk_ext []
    · blk_ext []
    · congr 1 <;> blk_ext []
  · rw [Read.val_main_v18_apply, Read.val_main_v17_apply, Read.val_main_v16_apply, Read.val_main_v15_apply, Read.val_main_v14_apply,
      Read.val_main_v13_apply, Read.val_main_v12_apply, Read.val_main_v11_apply, e]
    refine congrArg₂ (· + ·) ?_ (congrArg₂ (· * ·) ?_ (Finset.sum_congr rfl fun k _ => ?_))
    · blk_ext []
    · blk_ext []
    · congr 1
      · blk_ext []
        all_goals (show 256 + ((i 0).val - 256) = (i 0).val; omega)

theorem frame_reference : @Cert.quiescent_Reference5Ideal Cert.Reference5Ideal.Gen.facts := fun m g _ =>
  (θ_run Cert.Reference5Ideal.defs _ _).mono (fun _ h => ⟨fun c => (h c).2, sem_eq_zero_of_no_sems rfl _⟩) (Cert.Reference5Ideal.Value.run m g)

theorem algebraic : @Cert.algebraic_Kernel5Ideal_Reference5Ideal Cert.Kernel5Ideal.Gen.facts Cert.Reference5Ideal.Gen.facts := fun m g m' g' _ e => by
  refine ⟨fun c => Cert.Kernel5Ideal.Out.proj (Cert.Kernel5Ideal.Out.argH m c) (Cert.Kernel5Ideal.Out.argW m c) (Cert.Kernel5Ideal.Out.argX m c) (Cert.Kernel5Ideal.Out.argM m c), ?_, ?_⟩
  · exact (θ_run Cert.Kernel5Ideal.defs _ _).mono (fun _ h c => ⟨h.1 c, h.2.1 c⟩)
      (θ_run_and (Cert.Kernel5Ideal.Out.value m g) (Cert.Kernel5Ideal.Gen.frame m g))
  · refine (θ_run Cert.Reference5Ideal.defs _ _).mono (fun _ h c => ⟨?_, (h c).2⟩) (Cert.Reference5Ideal.Value.run m' g')
    obtain ⟨e0, e1, e2, e3⟩ := e c
    rw [(h c).1, Read.val_main_v19_eq, e0, e1, e2, e3]
    exact reference_at _ _ _ _

end Cert.Proof.Out

end
-- ==== Proof.Rms.lean ====
/-
  A row divided by the root of its mean square.
-/
module

public import Idealize.ShloMosaic.PureOps.Ideal

@[expose] public section

noncomputable section

namespace Cert.Rms

open Idealize.ShloMosaic

/-- Entry `k` of a row of 2048 numbers divided by the root of their mean square (and 1e-6), times the gain `g`. -/
def scaled (row : Fin 2048 → EReal) (k : Fin 2048) (g : EReal) : EReal :=
  row k * Ideal.rsqrt (Ideal.div (∑ j : Fin 2048, row j * row j) (Ideal.ofBits FTy.f32 0x45000000#32) + Ideal.ofBits FTy.f32 0x358637BD#32) * g

/-- The same, then scaled by one more than `b` and moved by `a`. -/
def modulated (row : Fin 2048 → EReal) (k : Fin 2048) (g a b : EReal) : EReal :=
  scaled row k g * (Ideal.ofBits FTy.f32 0x3F800000#32 + b) + a

/-- The stream of row `n`: the first 256 rows are one, the others the second. -/
def stream (n : ℕ) : Fin 2 := if n < 256 then 0 else 1

end Cert.Rms

end
-- ==== Proof.MixNorm.lean ====
/-
  The norm before the mixers: every row normed and modulated.
-/
module

public import proofs.«01_k».proof.Defs
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Rms
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.MixNorm

open Cert.Kernel6Ideal Cert.Kernel6Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![t.val, 0] ∧ win0_1.index t = ![0, 0] ∧ win0_2.index t = ![if t.val = 0 then 0 else 1, 0, 0] ∧ win0_3.index t = ![t.val, 0] :=
  (by decide +kernel : ∀ t : Fin grid0.N, _)

/-- The argument arrays. -/
abbrev argX (c : Dev nD) : S8448x2048.Idx → EReal := m ((c.tc : Thread nD τ).loc main_arg0)
abbrev argG (c : Dev nD) : S2x2048.Idx → EReal := m ((c.tc : Thread nD τ).loc main_arg1)
abbrev argM (c : Dev nD) : S2x8x2048.Idx → EReal := m ((c.tc : Thread nD τ).loc main_arg2)

/-- The norm of every row by the first layer's gain, scaled and moved by rows 1 and 0 of its stream's modulation. -/
def norm (x : S8448x2048.Idx → EReal) (g : S2x2048.Idx → EReal) (w : S2x8x2048.Idx → EReal) : S8448x2048.Idx → EReal := fun i =>
  Cert.Rms.modulated (fun k => x (ix2 (i 0) k)) (i 1) (g (ix2 0 (i 1)))
    (w (ix3 (Cert.Rms.stream (i 0).val) 0 (i 1))) (w (ix3 (Cert.Rms.stream (i 0).val) 1 (i 1)))

theorem point_lt (t : Fin cfg0.N) : t.val < 33 := lt_of_lt_of_eq t.isLt N_0

theorem rows_at (c : Dev nD) (t : Fin cfg0.N) (r : Fin 256) (k : Fin 2048) :
    (iblk m c 0 t : S256x2048.Idx → EReal) (ix2 r k) = argX m c (ix2 ⟨256 * t.val + r.val, by have := point_lt t; omega⟩ k) := by
  have hw := windows t
  blk_ext [iblk, V, hw]

theorem gain_at (c : Dev nD) (t : Fin cfg0.N) (k : Fin 2048) :
    (iblk m c 1 t : S1x2048.Idx → EReal) (ix2 0 k) = argG m c (ix2 0 k) := by
  have hw := windows t
  unfold iblk
  blk_simp
  entry_read
  pointwise
  blk_ext [hw]

theorem modulation_at (c : Dev nD) (t : Fin cfg0.N) (r : Fin 256) (j : Fin 8) (k : Fin 2048) :
    (iblk m c 2 t : S1x8x2048.Idx → EReal) (ix3 0 j k) = argM m c (ix3 (Cert.Rms.stream (256 * t.val + r.val)) j k) := by
  have hw := windows t
  unfold Cert.Rms.stream
  by_cases h : t.val = 0
  · simp only [h, if_true] at hw
    rw [if_pos (by omega)]
    blk_ext [iblk, V, hw]
  · simp only [h, if_false] at hw
    rw [if_neg (by omega)]
    blk_ext [iblk, V, hw]

theorem product_at (x : S256x2048.Idx → EReal) (g : S1x2048.Idx → EReal) (w : S1x8x2048.Idx → EReal) (r : Fin 256) (q : Fin 2048) :
    (k0_pay1 (F := Ideal) x g w (ix2 r q) : EReal)
      = Cert.Rms.modulated (fun k => x (ix2 r k)) q (g (ix2 0 q)) (w (ix3 0 0 q)) (w (ix3 0 1 q)) := by
  unfold Cert.Rms.modulated Cert.Rms.scaled
  pointwise [k0_pay1]

/-- What a point's norm is, of the blocks it holds. -/
theorem norm_at (c : Dev nD) (t : Fin cfg0.N) (r : Fin 256) (q : Fin 2048) :
    (k0_pay1 (F := Ideal) (iblk m c 0 t) (iblk m c 1 t) (iblk m c 2 t) (ix2 r q) : EReal)
      = norm (argX m c) (argG m c) (argM m c) (ix2 ⟨256 * t.val + r.val, by have := point_lt t; omega⟩ q) := by
  rw [product_at]
  unfold norm
  rw [gain_at m c t q, modulation_at m c t r 0 q, modulation_at m c t r 1 q]
  exact congrArg (fun a => Cert.Rms.modulated a q _ _ _) (funext fun k => rows_at m c t r k)

theorem out_at (c : Dev nD) (t : Fin cfg0.N) (r : Fin 256) (q : Fin 2048) :
    (out0_3 (F := Ideal) (iblk m c 0 t) (iblk m c 1 t) (iblk m c 2 t) (ix2 r q) : EReal)
      = norm (argX m c) (argG m c) (argM m c) (ix2 ⟨256 * t.val + r.val, by have := point_lt t; omega⟩ q) := by
  frame_out
  exact norm_at m c t r q

theorem result (c : Dev nD) : (dats m 0 c).arrAt 3 cfg0.N = norm (argX m c) (argG m c) (argM m c) := by
  refine (dats m 0 c).arrAt_eq_of_covers 3 _ (by decide +kernel) fun t hf y => ?_
  have hw := windows t
  blk_simp
  rw [after0_3]
  have hy : (y : S256x2048.Idx) = ix2 (y 0) (y 1) := by funext a; match a with | ⟨0, _⟩ => rfl | ⟨1, _⟩ => rfl
  refine (congrArg (out0_3 (F := Ideal) _ _ _) hy).trans ((out_at m c t (y 0) (y 1)).trans ?_)
  blk_ext [hw]

theorem value : θ_run defs (onTc (τ := τ) (main (F := Ideal))) ⟨m, fun _ => 0, ρ⟩ (fun r => ∀ c : Dev nD,
      r.2.mem ((c.tc : Thread nD τ).loc main_v3) = norm (argX m c) (argG m c) (argM m c)) :=
  (θ_run defs _ _).mono (fun _ h c => (h c).1.trans (result m c)) (Value.run_blocks m ρ)

end Cert.Kernel6Ideal.MixNorm

namespace Cert.Proof.MixNorm

open Idealize.ShloMosaic Idealize.ShloMosaic.TcCoe Idealize.ShloMosaic.Tactic
open Idealize.SL.Sem
open Cert.Reference6Ideal

theorem joined_at (x : S8448x2048.Idx → EReal) (g : S2x2048.Idx → EReal) (w : S2x8x2048.Idx → EReal) (i : S8448x2048.Idx) :
    (Read.val_main_v60 (F := Ideal) x g w i : EReal) = Cert.Kernel6Ideal.MixNorm.norm x g w i := by
  unfold Read.val_main_v60 Cert.Kernel6Ideal.MixNorm.norm Cert.Rms.modulated Cert.Rms.scaled Cert.Rms.stream
  pointwise
  split <;> rename_i hi
  · pointwise [Read.val_main_v0, Read.val_main_v1, Read.val_main_v2, Read.val_main_v3, Read.val_main_v4, Read.val_main_v5, Read.val_main_v6, Read.val_main_v7, Read.val_main_cst, Read.val_main_v8, Read.val_main_v9, Read.val_main_cst_0, Read.val_main_v10, Read.val_main_v11, Read.val_main_cst_1, Read.val_main_v12, Read.val_main_v13, Read.val_main_v14, Read.val_main_v15, Read.val_main_v16, Read.val_main_v17, Read.val_main_v18, Read.val_main_v19, Read.val_main_v20, Read.val_main_v21, Read.val_main_cst_2, Read.val_main_v22, Read.val_main_v23, Read.val_main_v24, Read.val_main_v25, Read.val_main_v26, Read.val_main_v27, Read.val_main_v28, Read.val_main_v29, Read.val_main_v30, Read.val_main_v31, Read.val_main_v32, Read.val_main_v33, Read.val_main_v34, Read.val_main_v35, Read.val_main_cst_3, Read.val_main_v36, Read.val_main_v37, Read.val_main_cst_4, Read.val_main_v38, Read.val_main_v39, Read.val_main_cst_5, Read.val_main_v40, Read.val_main_v41, Read.val_main_v42, Read.val_main_v43, Read.val_main_v44, Read.val_main_v45, Read.val_main_v46, Read.val_main_v47, Read.val_main_v48, Read.val_main_v49, Read.val_main_cst_6, Read.val_main_v50, Read.val_main_v51, Read.val_main_v52, Read.val_main_v53, Read.val_main_v54, Read.val_main_v55, Read.val_main_v56, Read.val_main_v57, Read.val_main_v58, Read.val_main_v59]
  · have e : (⟨256 + ((i 0).val - 256), by have : (i 0).val < 8448 := (i 0).isLt; omega⟩ : Fin 8448) = i 0 :=
      Fin.ext (by show 256 + ((i 0).val - 256) = (i 0).val; omega)
    pointwise [Read.val_main_v0, Read.val_main_v1, Read.val_main_v2, Read.val_main_v3, Read.val_main_v4, Read.val_main_v5, Read.val_main_v6, Read.val_main_v7, Read.val_main_cst, Read.val_main_v8, Read.val_main_v9, Read.val_main_cst_0, Read.val_main_v10, Read.val_main_v11, Read.val_main_cst_1, Read.val_main_v12, Read.val_main_v13, Read.val_main_v14, Read.val_main_v15, Read.val_main_v16, Read.val_main_v17, Read.val_main_v18, Read.val_main_v19, Read.val_main_v20, Read.val_main_v21, Read.val_main_cst_2, Read.val_main_v22, Read.val_main_v23, Read.val_main_v24, Read.val_main_v25, Read.val_main_v26, Read.val_main_v27, Read.val_main_v28, Read.val_main_v29, Read.val_main_v30, Read.val_main_v31, Read.val_main_v32, Read.val_main_v33, Read.val_main_v34, Read.val_main_v35, Read.val_main_cst_3, Read.val_main_v36, Read.val_main_v37, Read.val_main_cst_4, Read.val_main_v38, Read.val_main_v39, Read.val_main_cst_5, Read.val_main_v40, Read.val_main_v41, Read.val_main_v42, Read.val_main_v43, Read.val_main_v44, Read.val_main_v45, Read.val_main_v46, Read.val_main_v47, Read.val_main_v48, Read.val_main_v49, Read.val_main_cst_6, Read.val_main_v50, Read.val_main_v51, Read.val_main_v52, Read.val_main_v53, Read.val_main_v54, Read.val_main_v55, Read.val_main_v56, Read.val_main_v57, Read.val_main_v58, Read.val_main_v59]
    simp only [e]
    rw [show (ix2 (i 0) (i 1) : S8448x2048.Idx) = i from funext fun a => match a with | ⟨0, _⟩ => rfl | ⟨1, _⟩ => rfl]

theorem frame_reference : @Cert.quiescent_Reference6Ideal Cert.Reference6Ideal.Gen.facts := fun m g _ =>
  (θ_run Cert.Reference6Ideal.defs _ _).mono (fun _ h => ⟨fun c => (h c).2, sem_eq_zero_of_no_sems rfl _⟩) (Cert.Reference6Ideal.Value.run m g)

theorem algebraic : @Cert.algebraic_Kernel6Ideal_Reference6Ideal Cert.Kernel6Ideal.Gen.facts Cert.Reference6Ideal.Gen.facts := fun m g m' g' _ e => by
  refine ⟨fun c => Cert.Kernel6Ideal.MixNorm.norm (Cert.Kernel6Ideal.MixNorm.argX m c) (Cert.Kernel6Ideal.MixNorm.argG m c) (Cert.Kernel6Ideal.MixNorm.argM m c), ?_, ?_⟩
  · exact (θ_run Cert.Kernel6Ideal.defs _ _).mono (fun _ h c => ⟨h.1 c, h.2.1 c⟩)
      (θ_run_and (Cert.Kernel6Ideal.MixNorm.value m g) (Cert.Kernel6Ideal.Gen.frame m g))
  · refine (θ_run Cert.Reference6Ideal.defs _ _).mono (fun _ h c => ⟨?_, (h c).2⟩) (Cert.Reference6Ideal.Value.run m' g')
    obtain ⟨e0, e1, e2⟩ := e c
    rw [(h c).1, Read.val_main_v61_eq, e0, e1, e2]
    exact funext fun i => joined_at _ _ _ i

end Cert.Proof.MixNorm

end
-- ==== Proof.FfnNorm.lean ====
/-
  The norm before the experts, with the router's products.
-/
module

public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Rms
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel7Ideal.FfnNorm

open Cert.Kernel7Ideal Cert.Kernel7Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![t.val, 0] ∧ win0_1.index t = ![0, 0] ∧ win0_2.index t = ![if t.val = 0 then 0 else 1, 0, 0] ∧ win0_4.index t = ![t.val, 0] ∧ win0_3.index t = ![0, 0] ∧ win0_5.index t = ![0, t.val] :=
  (by decide +kernel : ∀ t : Fin grid0.N, _)

/-- The argument arrays. -/
abbrev argX (c : Dev nD) : S8448x2048.Idx → EReal := m ((c.tc : Thread nD τ).loc main_arg0)
abbrev argG (c : Dev nD) : S2x2048.Idx → EReal := m ((c.tc : Thread nD τ).loc main_arg1)
abbrev argM (c : Dev nD) : S2x8x2048.Idx → EReal := m ((c.tc : Thread nD τ).loc main_arg2)
abbrev argU (c : Dev nD) : S2048x64.Idx → EReal := m ((c.tc : Thread nD τ).loc main_arg3)

/-- The norm of every row by the first layer's gain, scaled and moved by rows 4 and 3 of its stream's modulation. -/
def norm (x : S8448x2048.Idx → EReal) (g : S2x2048.Idx → EReal) (w : S2x8x2048.Idx → EReal) : S8448x2048.Idx → EReal := fun i =>
  Cert.Rms.modulated (fun k => x (ix2 (i 0) k)) (i 1) (g (ix2 0 (i 1)))
    (w (ix3 (Cert.Rms.stream (i 0).val) 3 (i 1))) (w (ix3 (Cert.Rms.stream (i 0).val) 4 (i 1)))

theorem point_lt (t : Fin cfg0.N) : t.val < 33 := lt_of_lt_of_eq t.isLt N_0

theorem rows_at (c : Dev nD) (t : Fin cfg0.N) (r : Fin 256) (k : Fin 2048) :
    (iblk m c 0 t : S256x2048.Idx → EReal) (ix2 r k) = argX m c (ix2 ⟨256 * t.val + r.val, by have := point_lt t; omega⟩ k) := by
  have hw := windows t
  blk_ext [iblk, V, hw]

theorem gain_at (c : Dev nD) (t : Fin cfg0.N) (k : Fin 2048) :
    (iblk m c 1 t : S1x2048.Idx → EReal) (ix2 0 k) = argG m c (ix2 0 k) := by
  have hw := windows t
  unfold iblk
  blk_simp
  entry_read
  pointwise
  blk_ext [hw]

theorem modulation_at (c : Dev nD) (t : Fin cfg0.N) (r : Fin 256) (j : Fin 8) (k : Fin 2048) :
    (iblk m c 2 t : S1x8x2048.Idx → EReal) (ix3 0 j k) = argM m c (ix3 (Cert.Rms.stream (256 * t.val + r.val)) j k) := by
  have hw := windows t
  unfold Cert.Rms.stream
  by_cases h : t.val = 0
  · simp only [h, if_true] at hw
    rw [if_pos (by omega)]
    blk_ext [iblk, V, hw]
  · simp only [h, if_false] at hw
    rw [if_neg (by omega)]
    blk_ext [iblk, V, hw]

theorem product_at (x : S256x2048.Idx → EReal) (g : S1x2048.Idx → EReal) (w : S1x8x2048.Idx → EReal) (r : Fin 256) (q : Fin 2048) :
    (k0_pay1 (F := Ideal) x g w (ix2 r q) : EReal)
      = Cert.Rms.modulated (fun k => x (ix2 r k)) q (g (ix2 0 q)) (w (ix3 0 3 q)) (w (ix3 0 4 q)) := by
  unfold Cert.Rms.modulated Cert.Rms.scaled
  pointwise [k0_pay1]

/-- What a point's norm is, of the blocks it holds. -/
theorem norm_at (c : Dev nD) (t : Fin cfg0.N) (r : Fin 256) (q : Fin 2048) :
    (k0_pay1 (F := Ideal) (iblk m c 0 t) (iblk m c 1 t) (iblk m c 2 t) (ix2 r q) : EReal)
      = norm (argX m c) (argG m c) (argM m c) (ix2 ⟨256 * t.val + r.val, by have := point_lt t; omega⟩ q) := by
  rw [product_at]
  unfold norm
  rw [gain_at m c t q, modulation_at m c t r 3 q, modulation_at m c t r 4 q]
  exact congrArg (fun a => Cert.Rms.modulated a q _ _ _) (funext fun k => rows_at m c t r k)

theorem out_at (c : Dev nD) (t : Fin cfg0.N) (r : Fin 256) (q : Fin 2048) :
    (out0_4 (F := Ideal) (iblk m c 0 t) (iblk m c 1 t) (iblk m c 2 t) (iblk m c 3 t) (ix2 r q) : EReal)
      = norm (argX m c) (argG m c) (argM m c) (ix2 ⟨256 * t.val + r.val, by have := point_lt t; omega⟩ q) := by
  frame_out
  exact norm_at m c t r q

theorem result (c : Dev nD) : (dats m 0 c).arrAt 4 cfg0.N = norm (argX m c) (argG m c) (argM m c) := by
  refine (dats m 0 c).arrAt_eq_of_covers 4 _ (by decide +kernel) fun t hf y => ?_
  have hw := windows t
  blk_simp
  rw [after0_4]
  have hy : (y : S256x2048.Idx) = ix2 (y 0) (y 1) := by funext a; match a with | ⟨0, _⟩ => rfl | ⟨1, _⟩ => rfl
  refine (congrArg (out0_4 (F := Ideal) _ _ _ _) hy).trans ((out_at m c t (y 0) (y 1)).trans ?_)
  blk_ext [hw]

/-- The router's products of the norm: one row per expert, one column per token. -/
def logits (x : S8448x2048.Idx → EReal) (g : S2x2048.Idx → EReal) (w : S2x8x2048.Idx → EReal) (u : S2048x64.Idx → EReal) : S64x8448.Idx → EReal := fun i =>
  ∑ k : Fin 2048, u (ix2 k (i 0)) * norm x g w (ix2 (i 1) k)

theorem router_at (c : Dev nD) (t : Fin cfg0.N) (a : Fin 64) (k : Fin 2048) :
    (iblk m c 3 t : S64x2048.Idx → EReal) (ix2 a k) = argU m c (ix2 k a) := by
  have hw := windows t
  unfold iblk
  blk_simp
  entry_read
  pointwise
  blk_ext [hw]

theorem routed_at (x : S256x2048.Idx → EReal) (g : S1x2048.Idx → EReal) (w : S1x8x2048.Idx → EReal) (u : S64x2048.Idx → EReal) (a : Fin 64) (r : Fin 256) :
    (k0_pay2 (F := Ideal) x g w u (ix2 a r) : EReal) = ∑ k : Fin 2048, u (ix2 a k) * (k0_pay1 (F := Ideal) x g w (ix2 r k) : EReal) := by
  pointwise [k0_pay2]

theorem logit_at (c : Dev nD) (t : Fin cfg0.N) (a : Fin 64) (r : Fin 256) :
    (out0_5 (F := Ideal) (iblk m c 0 t) (iblk m c 1 t) (iblk m c 2 t) (iblk m c 3 t) (ix2 a r) : EReal)
      = logits (argX m c) (argG m c) (argM m c) (argU m c) (ix2 a ⟨256 * t.val + r.val, by have := point_lt t; omega⟩) := by
  frame_out
  rw [routed_at]
  unfold logits
  exact Finset.sum_congr rfl fun k _ => congrArg₂ (· * ·) (router_at m c t a k) (norm_at m c t r k)

theorem result_logits (c : Dev nD) : (dats m 0 c).arrAt 5 cfg0.N = logits (argX m c) (argG m c) (argM m c) (argU m c) := by
  refine (dats m 0 c).arrAt_eq_of_covers 5 _ (by decide +kernel) fun t hf y => ?_
  have hw := windows t
  blk_simp
  rw [after0_5]
  have hy : (y : S64x256.Idx) = ix2 (y 0) (y 1) := by funext a; match a with | ⟨0, _⟩ => rfl | ⟨1, _⟩ => rfl
  refine (congrArg (out0_5 (F := Ideal) _ _ _ _) hy).trans ((logit_at m c t (y 0) (y 1)).trans ?_)
  blk_ext [hw]

theorem value : θ_run defs (onTc (τ := τ) (main (F := Ideal))) ⟨m, fun _ => 0, ρ⟩ (fun r => ∀ c : Dev nD,
      r.2.mem ((c.tc : Thread nD τ).loc main_v4_0) = norm (argX m c) (argG m c) (argM m c)
      ∧ r.2.mem ((c.tc : Thread nD τ).loc main_v4_1) = logits (argX m c) (argG m c) (argM m c) (argU m c)) :=
  (θ_run defs _ _).mono (fun _ h c => ⟨(h c).1.trans (result m c), (h c).2.1.trans (result_logits m c)⟩) (Value.run_blocks m ρ)

end Cert.Kernel7Ideal.FfnNorm

namespace Cert.Proof.FfnNorm

open Idealize.ShloMosaic Idealize.ShloMosaic.TcCoe Idealize.ShloMosaic.Tactic
open Idealize.SL.Sem
open Cert.Reference7Ideal

theorem joined_at (x : S8448x2048.Idx → EReal) (g : S2x2048.Idx → EReal) (w : S2x8x2048.Idx → EReal) (i : S8448x2048.Idx) :
    (Read.val_main_v60 (F := Ideal) x g w i : EReal) = Cert.Kernel7Ideal.FfnNorm.norm x g w i := by
  unfold Read.val_main_v60 Cert.Kernel7Ideal.FfnNorm.norm Cert.Rms.modulated Cert.Rms.scaled Cert.Rms.stream
  pointwise
  split <;> rename_i hi
  · pointwise [Read.val_main_v0, Read.val_main_v1, Read.val_main_v2, Read.val_main_v3, Read.val_main_v4, Read.val_main_v5, Read.val_main_v6, Read.val_main_v7, Read.val_main_cst, Read.val_main_v8, Read.val_main_v9, Read.val_main_cst_0, Read.val_main_v10, Read.val_main_v11, Read.val_main_cst_1, Read.val_main_v12, Read.val_main_v13, Read.val_main_v14, Read.val_main_v15, Read.val_main_v16, Read.val_main_v17, Read.val_main_v18, Read.val_main_v19, Read.val_main_v20, Read.val_main_v21, Read.val_main_cst_2, Read.val_main_v22, Read.val_main_v23, Read.val_main_v24, Read.val_main_v25, Read.val_main_v26, Read.val_main_v27, Read.val_main_v28, Read.val_main_v29, Read.val_main_v30, Read.val_main_v31, Read.val_main_v32, Read.val_main_v33, Read.val_main_v34, Read.val_main_v35, Read.val_main_cst_3, Read.val_main_v36, Read.val_main_v37, Read.val_main_cst_4, Read.val_main_v38, Read.val_main_v39, Read.val_main_cst_5, Read.val_main_v40, Read.val_main_v41, Read.val_main_v42, Read.val_main_v43, Read.val_main_v44, Read.val_main_v45, Read.val_main_v46, Read.val_main_v47, Read.val_main_v48, Read.val_main_v49, Read.val_main_cst_6, Read.val_main_v50, Read.val_main_v51, Read.val_main_v52, Read.val_main_v53, Read.val_main_v54, Read.val_main_v55, Read.val_main_v56, Read.val_main_v57, Read.val_main_v58, Read.val_main_v59]
  · have e : (⟨256 + ((i 0).val - 256), by have : (i 0).val < 8448 := (i 0).isLt; omega⟩ : Fin 8448) = i 0 :=
      Fin.ext (by show 256 + ((i 0).val - 256) = (i 0).val; omega)
    pointwise [Read.val_main_v0, Read.val_main_v1, Read.val_main_v2, Read.val_main_v3, Read.val_main_v4, Read.val_main_v5, Read.val_main_v6, Read.val_main_v7, Read.val_main_cst, Read.val_main_v8, Read.val_main_v9, Read.val_main_cst_0, Read.val_main_v10, Read.val_main_v11, Read.val_main_cst_1, Read.val_main_v12, Read.val_main_v13, Read.val_main_v14, Read.val_main_v15, Read.val_main_v16, Read.val_main_v17, Read.val_main_v18, Read.val_main_v19, Read.val_main_v20, Read.val_main_v21, Read.val_main_cst_2, Read.val_main_v22, Read.val_main_v23, Read.val_main_v24, Read.val_main_v25, Read.val_main_v26, Read.val_main_v27, Read.val_main_v28, Read.val_main_v29, Read.val_main_v30, Read.val_main_v31, Read.val_main_v32, Read.val_main_v33, Read.val_main_v34, Read.val_main_v35, Read.val_main_cst_3, Read.val_main_v36, Read.val_main_v37, Read.val_main_cst_4, Read.val_main_v38, Read.val_main_v39, Read.val_main_cst_5, Read.val_main_v40, Read.val_main_v41, Read.val_main_v42, Read.val_main_v43, Read.val_main_v44, Read.val_main_v45, Read.val_main_v46, Read.val_main_v47, Read.val_main_v48, Read.val_main_v49, Read.val_main_cst_6, Read.val_main_v50, Read.val_main_v51, Read.val_main_v52, Read.val_main_v53, Read.val_main_v54, Read.val_main_v55, Read.val_main_v56, Read.val_main_v57, Read.val_main_v58, Read.val_main_v59]
    simp only [e]
    rw [show (ix2 (i 0) (i 1) : S8448x2048.Idx) = i from funext fun a => match a with | ⟨0, _⟩ => rfl | ⟨1, _⟩ => rfl]

theorem frame_reference : @Cert.quiescent_Reference7Ideal Cert.Reference7Ideal.Gen.facts := fun m g _ =>
  (θ_run Cert.Reference7Ideal.defs _ _).mono (fun _ h => ⟨fun c => (h c).2.2, sem_eq_zero_of_no_sems rfl _⟩) (Cert.Reference7Ideal.Value.run m g)

theorem logits_at (x : S8448x2048.Idx → EReal) (g : S2x2048.Idx → EReal) (w : S2x8x2048.Idx → EReal) (u : S2048x64.Idx → EReal) :
    Read.val_main_v62 (F := Ideal) x g w u = Cert.Kernel7Ideal.FfnNorm.logits x g w u := by
  funext i
  rw [Read.val_main_v62_apply, Read.val_main_v61_apply]
  unfold Cert.Kernel7Ideal.FfnNorm.logits
  refine Finset.sum_congr rfl fun k _ => ?_
  rw [joined_at, mul_comm]
  refine congrArg₂ (· * ·) (congrArg u ?_) (congrArg (Cert.Kernel7Ideal.FfnNorm.norm x g w) ?_)
  · blk_ext []
  · blk_ext []

theorem algebraic : @Cert.algebraic_Kernel7Ideal_Reference7Ideal Cert.Kernel7Ideal.Gen.facts Cert.Reference7Ideal.Gen.facts := fun m g m' g' _ e => by
  refine ⟨fun c => Cert.Kernel7Ideal.FfnNorm.norm (Cert.Kernel7Ideal.FfnNorm.argX m c) (Cert.Kernel7Ideal.FfnNorm.argG m c) (Cert.Kernel7Ideal.FfnNorm.argM m c),
    fun c => Cert.Kernel7Ideal.FfnNorm.logits (Cert.Kernel7Ideal.FfnNorm.argX m c) (Cert.Kernel7Ideal.FfnNorm.argG m c) (Cert.Kernel7Ideal.FfnNorm.argM m c) (Cert.Kernel7Ideal.FfnNorm.argU m c), ?_, ?_⟩
  · exact (θ_run Cert.Kernel7Ideal.defs _ _).mono (fun _ h c => ⟨(h.1 c).1, (h.1 c).2, h.2.1 c⟩)
      (θ_run_and (Cert.Kernel7Ideal.FfnNorm.value m g) (Cert.Kernel7Ideal.Gen.frame m g))
  · refine (θ_run Cert.Reference7Ideal.defs _ _).mono (fun _ h c => ⟨?_, ?_, (h c).2.2⟩) (Cert.Reference7Ideal.Value.run m' g')
    · obtain ⟨e0, e1, e2, e3⟩ := e c
      rw [(h c).1, Read.val_main_v60_eq, e0, e1, e2]
      exact funext fun i => joined_at _ _ _ i
    · obtain ⟨e0, e1, e2, e3⟩ := e c
      rw [(h c).2.1, Read.val_main_v62_eq, e0, e1, e2, e3]
      exact logits_at _ _ _ _

end Cert.Proof.FfnNorm

end
-- ==== Proof.FinalNorm.lean ====
/-
  The last norm: each of the last 8192 rows divided by the root of its mean square.
-/
module

public import proofs.«01_k».proof.Defs
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Rms
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel8Ideal.FinalNorm

open Cert.Kernel8Ideal Cert.Kernel8Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![t.val, 0] ∧ win0_1.index t = ![0, 0] ∧ win0_3.index t = ![t.val, 0] :=
  (by decide +kernel : ∀ t : Fin grid0.N, _)

/-- The two argument arrays. -/
abbrev argX (c : Dev nD) : S8448x2048.Idx → EReal := m ((c.tc : Thread nD τ).loc main_arg0)
abbrev argG (c : Dev nD) : S2048.Idx → EReal := m ((c.tc : Thread nD τ).loc main_arg1)

/-- The norm of rows 256 on. -/
def norm (x : S8448x2048.Idx → EReal) (g : S2048.Idx → EReal) : S8192x2048.Idx → EReal := fun i =>
  Cert.Rms.scaled (fun k => x (ix2 ⟨256 + (i 0).val, Nat.add_lt_add_left (i 0).isLt 256⟩ k)) (i 1) (g (ix1 (i 1)))

theorem point_lt (t : Fin cfg0.N) : t.val < 32 := lt_of_lt_of_eq t.isLt N_0

theorem rows_at (c : Dev nD) (t : Fin cfg0.N) (r : Fin 256) (k : Fin 2048) :
    (iblk m c 0 t : S256x2048.Idx → EReal) (ix2 r k) = argX m c (ix2 ⟨256 + (256 * t.val + r.val), by have := point_lt t; omega⟩ k) := by
  have hw := windows t
  unfold iblk
  blk_simp
  entry_read
  pointwise
  blk_ext [hw]

theorem gain_at (c : Dev nD) (t : Fin cfg0.N) (k : Fin 2048) :
    (iblk m c 1 t : S1x2048.Idx → EReal) (ix2 0 k) = argG m c (ix1 k) := by
  have hw := windows t
  unfold iblk
  blk_simp
  entry_read
  pointwise
  blk_ext [hw]

theorem product_at (x : S256x2048.Idx → EReal) (g : S1x2048.Idx → EReal) (r : Fin 256) (q : Fin 2048) :
    (k0_pay1 (F := Ideal) x g (ix2 r q) : EReal) = Cert.Rms.scaled (fun k => x (ix2 r k)) q (g (ix2 0 q)) := by
  unfold Cert.Rms.scaled
  pointwise [k0_pay1]

theorem out_at (c : Dev nD) (t : Fin cfg0.N) (r : Fin 256) (q : Fin 2048) :
    (out0_3 (F := Ideal) (iblk m c 0 t) (iblk m c 1 t) (iblk m c 2 t) (ix2 r q) : EReal)
      = norm (argX m c) (argG m c) (ix2 ⟨256 * t.val + r.val, by have := point_lt t; omega⟩ q) := by
  frame_out
  rw [product_at]
  unfold norm
  exact congrArg₂ (fun a b => Cert.Rms.scaled a q b) (funext fun k => rows_at m c t r k) (gain_at m c t q)

theorem result (c : Dev nD) : (dats m 0 c).arrAt 3 cfg0.N = norm (argX m c) (argG m c) := by
  refine (dats m 0 c).arrAt_eq_of_covers 3 _ (by decide +kernel) fun t hf y => ?_
  have hw := windows t
  blk_simp
  rw [after0_3]
  have hy : (y : S256x2048.Idx) = ix2 (y 0) (y 1) := by funext a; match a with | ⟨0, _⟩ => rfl | ⟨1, _⟩ => rfl
  refine (congrArg (out0_3 (F := Ideal) _ _ _) hy).trans ((out_at m c t (y 0) (y 1)).trans ?_)
  blk_ext [hw]

theorem value : θ_run defs (onTc (τ := τ) (main (F := Ideal))) ⟨m, fun _ => 0, ρ⟩ (fun r => ∀ c : Dev nD,
      r.2.mem ((c.tc : Thread nD τ).loc main_v3) = norm (argX m c) (argG m c)) :=
  (θ_run defs _ _).mono (fun _ h c => (h c).1.trans (result m c)) (Value.run_blocks m ρ)

end Cert.Kernel8Ideal.FinalNorm

namespace Cert.Proof.FinalNorm

open Idealize.ShloMosaic Idealize.ShloMosaic.TcCoe Idealize.ShloMosaic.Tactic
open Idealize.SL.Sem
open Cert.Reference8Ideal

theorem reference_at (x : S8448x2048.Idx → EReal) (g : S2048.Idx → EReal) :
    Read.val_main_v13 (F := Ideal) x g = Cert.Kernel8Ideal.FinalNorm.norm x g := by
  funext i
  unfold Cert.Kernel8Ideal.FinalNorm.norm Cert.Rms.scaled
  pointwise [Read.val_main_v0, Read.val_main_v1, Read.val_main_cst, Read.val_main_v2, Read.val_main_v3, Read.val_main_cst_0, Read.val_main_v4, Read.val_main_v5, Read.val_main_cst_1, Read.val_main_v6, Read.val_main_v7, Read.val_main_v8, Read.val_main_v9, Read.val_main_v10, Read.val_main_v11, Read.val_main_v12, Read.val_main_v13]

theorem frame_reference : @Cert.quiescent_Reference8Ideal Cert.Reference8Ideal.Gen.facts := fun m g _ =>
  (θ_run Cert.Reference8Ideal.defs _ _).mono (fun _ h => ⟨fun c => (h c).2, sem_eq_zero_of_no_sems rfl _⟩) (Cert.Reference8Ideal.Value.run m g)

theorem algebraic : @Cert.algebraic_Kernel8Ideal_Reference8Ideal Cert.Kernel8Ideal.Gen.facts Cert.Reference8Ideal.Gen.facts := fun m g m' g' _ e => by
  refine ⟨fun c => Cert.Kernel8Ideal.FinalNorm.norm (Cert.Kernel8Ideal.FinalNorm.argX m c) (Cert.Kernel8Ideal.FinalNorm.argG m c), ?_, ?_⟩
  · exact (θ_run Cert.Kernel8Ideal.defs _ _).mono (fun _ h c => ⟨h.1 c, h.2.1 c⟩)
      (θ_run_and (Cert.Kernel8Ideal.FinalNorm.value m g) (Cert.Kernel8Ideal.Gen.frame m g))
  · refine (θ_run Cert.Reference8Ideal.defs _ _).mono (fun _ h c => ⟨?_, (h c).2⟩) (Cert.Reference8Ideal.Value.run m' g')
    obtain ⟨e0, e1⟩ := e c
    rw [(h c).1, Read.val_main_v13_eq, e0, e1]
    exact reference_at _ _

end Cert.Proof.FinalNorm

end
-- ==== Proof.LruPost.lean ====
/-
  The end of the RG-LRU mixer: the two directions added and gated.
-/
module

public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel9Ideal.LruPost

open Cert.Kernel9Ideal Cert.Kernel9Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![t.val, 0] ∧ win0_1.index t = ![t.val, 0] ∧ win0_2.index t = ![t.val, 11] ∧ win0_3.index t = ![t.val, 0] :=
  (by decide +kernel : ∀ t : Fin grid0.N, _)

/-- The argument arrays. -/
abbrev argF (c : Dev nD) : S8448x512.Idx → EReal := m ((c.tc : Thread nD τ).loc main_arg0)
abbrev argB (c : Dev nD) : S8448x512.Idx → EReal := m ((c.tc : Thread nD τ).loc main_arg1)
abbrev argC (c : Dev nD) : S8448x6144.Idx → EReal := m ((c.tc : Thread nD τ).loc main_arg2)

/-- The Gaussian error linear unit, in its form with a hyperbolic tangent. -/
def gelu (z : EReal) : EReal :=
  Ideal.ofBits FTy.f32 0x3F000000#32 * z * (1 + Ideal.tanh (Ideal.ofBits FTy.f32 0x3F4C422A#32 * (z + Ideal.ofBits FTy.f32 0x3D372713#32 * (z * z * z))))

/-- The sum of the two directions, times the unit of the last 512 columns. -/
def gated (f b : S8448x512.Idx → EReal) (z : S8448x6144.Idx → EReal) : S8448x512.Idx → EReal := fun i =>
  (f i + b i) * gelu (z (ix2 (i 0) ⟨5632 + (i 1).val, Nat.add_lt_add_left (i 1).isLt 5632⟩))

theorem point_lt (t : Fin cfg0.N) : t.val < 33 := lt_of_lt_of_eq t.isLt N_0

theorem out_at (c : Dev nD) (t : Fin cfg0.N) (r : Fin 256) (q : Fin 512) :
    (out0_3 (F := Ideal) (iblk m c 0 t) (iblk m c 1 t) (iblk m c 2 t) (ix2 r q) : EReal)
      = gated (argF m c) (argB m c) (argC m c) (ix2 ⟨256 * t.val + r.val, by have := point_lt t; omega⟩ q) := by
  have hw := windows t
  frame_out
  unfold gated gelu
  pointwise [k0_pay1]
  dsimp only [argF, argB, argC]
  blk_point [iblk, V, hw]

theorem result (c : Dev nD) : (dats m 0 c).arrAt 3 cfg0.N = gated (argF m c) (argB m c) (argC m c) := by
  refine (dats m 0 c).arrAt_eq_of_covers 3 _ (by decide +kernel) fun t hf y => ?_
  have hw := windows t
  blk_simp
  rw [after0_3]
  have hy : (y : S256x512.Idx) = ix2 (y 0) (y 1) := by funext a; match a with | ⟨0, _⟩ => rfl | ⟨1, _⟩ => rfl
  refine (congrArg (out0_3 (F := Ideal) _ _ _) hy).trans ((out_at m c t (y 0) (y 1)).trans ?_)
  blk_ext [hw]

theorem value : θ_run defs (onTc (τ := τ) (main (F := Ideal))) ⟨m, fun _ => 0, ρ⟩ (fun r => ∀ c : Dev nD,
      r.2.mem ((c.tc : Thread nD τ).loc main_v0) = gated (argF m c) (argB m c) (argC m c)) :=
  (θ_run defs _ _).mono (fun _ h c => (h c).1.trans (result m c)) (Value.run_blocks m ρ)

end Cert.Kernel9Ideal.LruPost

namespace Cert.Proof.LruPost

open Idealize.ShloMosaic Idealize.ShloMosaic.TcCoe Idealize.ShloMosaic.Tactic
open Idealize.SL.Sem
open Cert.Reference9Ideal

theorem reference_at (f b : S8448x512.Idx → EReal) (z : S8448x6144.Idx → EReal) :
    Read.val_main_v18 (F := Ideal) f b z = Cert.Kernel9Ideal.LruPost.gated f b z := by
  funext i
  unfold Cert.Kernel9Ideal.LruPost.gated Cert.Kernel9Ideal.LruPost.gelu Read.val_main_v18
  pointwise [Read.val_main_v0, Read.val_main_v1, Read.val_main_v2, Read.val_main_v3, Read.val_main_v4, Read.val_main_cst, Read.val_main_v5, Read.val_main_v6, Read.val_main_v7, Read.val_main_cst_0, Read.val_main_v8, Read.val_main_v9, Read.val_main_v10, Read.val_main_cst_1, Read.val_main_v11, Read.val_main_v12, Read.val_main_cst_2, Read.val_main_v13, Read.val_main_v14, Read.val_main_v15, Read.val_main_v16, Read.val_main_v17]
  rw [← mul_assoc (z _) _ _, mul_comm (z _) (Ideal.ofBits FTy.f32 0x3F000000#32)]

theorem frame_reference : @Cert.quiescent_Reference9Ideal Cert.Reference9Ideal.Gen.facts := fun m g _ =>
  (θ_run Cert.Reference9Ideal.defs _ _).mono (fun _ h => ⟨fun c => (h c).2, sem_eq_zero_of_no_sems rfl _⟩) (Cert.Reference9Ideal.Value.run m g)

theorem algebraic : @Cert.algebraic_Kernel9Ideal_Reference9Ideal Cert.Kernel9Ideal.Gen.facts Cert.Reference9Ideal.Gen.facts := fun m g m' g' _ e => by
  refine ⟨fun c => Cert.Kernel9Ideal.LruPost.gated (Cert.Kernel9Ideal.LruPost.argF m c) (Cert.Kernel9Ideal.LruPost.argB m c) (Cert.Kernel9Ideal.LruPost.argC m c), ?_, ?_⟩
  · exact (θ_run Cert.Kernel9Ideal.defs _ _).mono (fun _ h c => ⟨h.1 c, h.2.1 c⟩)
      (θ_run_and (Cert.Kernel9Ideal.LruPost.value m g) (Cert.Kernel9Ideal.Gen.frame m g))
  · refine (θ_run Cert.Reference9Ideal.defs _ _).mono (fun _ h c => ⟨?_, (h c).2⟩) (Cert.Reference9Ideal.Value.run m' g')
    obtain ⟨e0, e1, e2⟩ := e c
    refine (h c).1.trans ((Read.val_main_v18_eq (F := Ideal) (m' ((c.tc : Thread nD τ).loc main_arg0)) (m' ((c.tc : Thread nD τ).loc main_arg1)) (m' ((c.tc : Thread nD τ).loc main_arg2))).trans ?_)
    rw [e0, e1, e2]
    exact reference_at _ _ _

end Cert.Proof.LruPost

end
-- ==== Proof.Combine.lean ====
/-
  The end of the experts: each token's two experts, weighted, added to the residual.
-/
module

public import proofs.«01_k».proof.Defs
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Rms
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel10Ideal.Combine

open Cert.Kernel10Ideal Cert.Kernel10Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![t.val, 0] ∧ win0_1.index t = ![t.val, 0] ∧ win0_2.index t = ![t.val + 33, 0] ∧ win0_3.index t = ![t.val, 0]
    ∧ win0_4.index t = ![if t.val = 0 then 0 else 1, 0, 0] ∧ win0_5.index t = ![t.val, 0] :=
  (by decide +kernel : ∀ t : Fin grid0.N, _)

/-- The argument arrays. -/
abbrev argX (c : Dev nD) : S8448x2048.Idx → EReal := m ((c.tc : Thread nD τ).loc main_arg0)
abbrev argY (c : Dev nD) : S16896x2048.Idx → EReal := m ((c.tc : Thread nD τ).loc main_arg1)
abbrev argW (c : Dev nD) : S8x8448.Idx → EReal := m ((c.tc : Thread nD τ).loc main_arg2)
abbrev argM (c : Dev nD) : S2x8x2048.Idx → EReal := m ((c.tc : Thread nD τ).loc main_arg3)

/-- The residual, plus row 5 of the row's stream's modulation times the weighted sum of rows `n` and `8448 + n` of the experts' rows. -/
def combined (x : S8448x2048.Idx → EReal) (y : S16896x2048.Idx → EReal) (w : S8x8448.Idx → EReal) (g : S2x8x2048.Idx → EReal) : S8448x2048.Idx → EReal := fun i =>
  x i + g (ix3 (Cert.Rms.stream (i 0).val) 5 (i 1))
    * (y (ix2 ⟨(i 0).val, lt_trans (i 0).isLt (by decide)⟩ (i 1)) * w (ix2 0 (i 0))
      + y (ix2 ⟨8448 + (i 0).val, Nat.add_lt_add_left (i 0).isLt 8448⟩ (i 1)) * w (ix2 1 (i 0)))

theorem point_lt (t : Fin cfg0.N) : t.val < 33 := lt_of_lt_of_eq t.isLt N_0

theorem residual_at (c : Dev nD) (t : Fin cfg0.N) (r : Fin 256) (q : Fin 2048) :
    (iblk m c 0 t : S256x2048.Idx → EReal) (ix2 r q) = argX m c (ix2 ⟨256 * t.val + r.val, by have := point_lt t; omega⟩ q) := by
  have hw := windows t
  blk_ext [iblk, V, hw]

theorem first_at (c : Dev nD) (t : Fin cfg0.N) (r : Fin 256) (q : Fin 2048) :
    (iblk m c 1 t : S256x2048.Idx → EReal) (ix2 r q) = argY m c (ix2 ⟨256 * t.val + r.val, by have := point_lt t; omega⟩ q) := by
  have hw := windows t
  unfold iblk
  blk_simp
  entry_read
  pointwise
  blk_ext [hw]

theorem second_at (c : Dev nD) (t : Fin cfg0.N) (r : Fin 256) (q : Fin 2048) :
    (iblk m c 2 t : S256x2048.Idx → EReal) (ix2 r q) = argY m c (ix2 ⟨8448 + (256 * t.val + r.val), by have := point_lt t; omega⟩ q) := by
  have hw := windows t
  unfold iblk
  blk_simp
  entry_read
  pointwise
  blk_ext [hw]

theorem weight_at (c : Dev nD) (t : Fin cfg0.N) (r : Fin 256) (j : Fin 8) :
    (iblk m c 3 t : S256x8.Idx → EReal) (ix2 r j) = argW m c (ix2 j ⟨256 * t.val + r.val, by have := point_lt t; omega⟩) := by
  have hw := windows t
  unfold iblk
  blk_simp
  entry_read
  pointwise
  blk_ext [hw]

theorem modulation_at (c : Dev nD) (t : Fin cfg0.N) (r : Fin 256) (j : Fin 8) (k : Fin 2048) :
    (iblk m c 4 t : S1x8x2048.Idx → EReal) (ix3 0 j k) = argM m c (ix3 (Cert.Rms.stream (256 * t.val + r.val)) j k) := by
  have hw := windows t
  unfold Cert.Rms.stream
  by_cases h : t.val = 0
  · simp only [h, if_true] at hw
    rw [if_pos (by omega)]
    blk_ext [iblk, V, hw]
  · simp only [h, if_false] at hw
    rw [if_neg (by omega)]
    blk_ext [iblk, V, hw]

theorem product_at (w : S256x8.Idx → EReal) (y z x : S256x2048.Idx → EReal) (g : S1x1x2048.Idx → EReal) (r : Fin 256) (q : Fin 2048) :
    (k0_pay1 (F := Ideal) w y z x g (ix2 r q) : EReal)
      = x (ix2 r q) + g (ix3 0 0 q) * (y (ix2 r q) * w (ix2 r 0) + z (ix2 r q) * w (ix2 r 1)) := by
  pointwise [k0_pay1]

theorem gate_at (b : S1x8x2048.Idx → EReal) (q : Fin 2048) :
    (View.ld (Val := Elt Ideal) (e' := EltTy.f32) b r0_2 : S1x1x2048.Idx → EReal) (ix3 0 0 q) = b (ix3 0 5 q) := by
  rw [View.ld_apply]
  exact congrArg b (by funext a; match a with | ⟨0, _⟩ => rfl | ⟨1, _⟩ => rfl | ⟨2, _⟩ => exact Fin.ext (show 0 + 1 * q.val = q.val by omega))

theorem out_at (c : Dev nD) (t : Fin cfg0.N) (r : Fin 256) (q : Fin 2048) :
    (out0_5 (F := Ideal) (iblk m c 0 t) (iblk m c 1 t) (iblk m c 2 t) (iblk m c 3 t) (iblk m c 4 t) (ix2 r q) : EReal)
      = combined (argX m c) (argY m c) (argW m c) (argM m c) (ix2 ⟨256 * t.val + r.val, by have := point_lt t; omega⟩ q) := by
  frame_out
  rw [product_at, residual_at m c t r q, first_at m c t r q, second_at m c t r q, weight_at m c t r 0, weight_at m c t r 1, gate_at, modulation_at m c t r 5 q]
  rfl

theorem result (c : Dev nD) : (dats m 0 c).arrAt 5 cfg0.N = combined (argX m c) (argY m c) (argW m c) (argM m c) := by
  refine (dats m 0 c).arrAt_eq_of_covers 5 _ (by decide +kernel) fun t hf y => ?_
  have hw := windows t
  blk_simp
  rw [after0_5]
  have hy : (y : S256x2048.Idx) = ix2 (y 0) (y 1) := by funext a; match a with | ⟨0, _⟩ => rfl | ⟨1, _⟩ => rfl
  refine (congrArg (out0_5 (F := Ideal) _ _ _ _ _) hy).trans ((out_at m c t (y 0) (y 1)).trans ?_)
  blk_ext [hw]

theorem value : θ_run defs (onTc (τ := τ) (main (F := Ideal))) ⟨m, fun _ => 0, ρ⟩ (fun r => ∀ c : Dev nD,
      r.2.mem ((c.tc : Thread nD τ).loc main_v3) = combined (argX m c) (argY m c) (argW m c) (argM m c)) :=
  (θ_run defs _ _).mono (fun _ h c => (h c).1.trans (result m c)) (Value.run_blocks m ρ)

end Cert.Kernel10Ideal.Combine

namespace Cert.Proof.Combine

open Idealize.ShloMosaic Idealize.ShloMosaic.TcCoe Idealize.ShloMosaic.Tactic
open Idealize.SL.Sem
open Cert.Reference10Ideal

theorem reference_at (x : S8448x2048.Idx → EReal) (y : S16896x2048.Idx → EReal) (w : S8x8448.Idx → EReal) (g : S2x8x2048.Idx → EReal) :
    Read.val_main_v22 (F := Ideal) x y w g = Cert.Kernel10Ideal.Combine.combined x y w g := by
  funext i
  unfold Cert.Kernel10Ideal.Combine.combined Cert.Rms.stream Read.val_main_v22
  pointwise
  split <;> rename_i hi
  · pointwise [Read.val_main_v0, Read.val_main_v1, Read.val_main_v2, Read.val_main_v3, Read.val_main_v4, Read.val_main_cst, Read.val_main_v5, Read.val_main_v6, Read.val_main_v7, Read.val_main_v8, Read.val_main_v9, Read.val_main_v10, Read.val_main_v11, Read.val_main_v12, Read.val_main_v13, Read.val_main_v14, Read.val_main_v15, Read.val_main_v16, Read.val_main_v17, Read.val_main_v18, Read.val_main_v19, Read.val_main_v20, Read.val_main_v21]
    rw [Fin.sum_univ_two]
    have f1 : ((0 : Fin 2).val * 8448 + (i 0).val) = (i 0).val := by simp
    have f2 : ((1 : Fin 2).val * 8448 + (i 0).val) = 8448 + (i 0).val := by simp
    simp only [f1, f2]
    rfl
  · pointwise [Read.val_main_v0, Read.val_main_v1, Read.val_main_v2, Read.val_main_v3, Read.val_main_v4, Read.val_main_cst, Read.val_main_v5, Read.val_main_v6, Read.val_main_v7, Read.val_main_v8, Read.val_main_v9, Read.val_main_v10, Read.val_main_v11, Read.val_main_v12, Read.val_main_v13, Read.val_main_v14, Read.val_main_v15, Read.val_main_v16, Read.val_main_v17, Read.val_main_v18, Read.val_main_v19, Read.val_main_v20, Read.val_main_v21]
    rw [Fin.sum_univ_two]
    have hlt : (i 0).val < 8448 := (i 0).isLt
    have e : (⟨256 + ((i 0).val - 256), by omega⟩ : Fin 8448) = i 0 := Fin.ext (show 256 + ((i 0).val - 256) = (i 0).val by omega)
    simp only [e]
    have f0 : 256 + ((i 0).val - 256) = (i 0).val := by omega
    have f1 : ((0 : Fin 2).val * 8448 + (i 0).val) = (i 0).val := by simp
    have f2 : ((1 : Fin 2).val * 8448 + (i 0).val) = 8448 + (i 0).val := by simp
    rw [show (ix2 (i 0) (i 1) : S8448x2048.Idx) = i from funext fun a => match a with | ⟨0, _⟩ => rfl | ⟨1, _⟩ => rfl]
    simp only [f0, f1, f2]
    rfl

theorem frame_reference : @Cert.quiescent_Reference10Ideal Cert.Reference10Ideal.Gen.facts := fun m g _ =>
  (θ_run Cert.Reference10Ideal.defs _ _).mono (fun _ h => ⟨fun c => (h c).2, sem_eq_zero_of_no_sems rfl _⟩) (Cert.Reference10Ideal.Value.run m g)

theorem algebraic : @Cert.algebraic_Kernel10Ideal_Reference10Ideal Cert.Kernel10Ideal.Gen.facts Cert.Reference10Ideal.Gen.facts := fun m g m' g' _ e => by
  refine ⟨fun c => Cert.Kernel10Ideal.Combine.combined (Cert.Kernel10Ideal.Combine.argX m c) (Cert.Kernel10Ideal.Combine.argY m c) (Cert.Kernel10Ideal.Combine.argW m c) (Cert.Kernel10Ideal.Combine.argM m c), ?_, ?_⟩
  · exact (θ_run Cert.Kernel10Ideal.defs _ _).mono (fun _ h c => ⟨h.1 c, h.2.1 c⟩)
      (θ_run_and (Cert.Kernel10Ideal.Combine.value m g) (Cert.Kernel10Ideal.Gen.frame m g))
  · refine (θ_run Cert.Reference10Ideal.defs _ _).mono (fun _ h c => ⟨?_, (h c).2⟩) (Cert.Reference10Ideal.Value.run m' g')
    obtain ⟨e0, e1, e2, e3⟩ := e c
    rw [(h c).1, Read.val_main_v22_eq, e0, e1, e2, e3]
    exact reference_at _ _ _ _

end Cert.Proof.Combine

end
-- ==== Proof.Modulation.lean ====
/-
  The modulation of both streams: a sigmoid-weighted conditioning row against the modulation weights.
-/
module

public import proofs.«01_k».proof.Defs
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Routing.OpsOne
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel11Ideal.Modulation

open Cert.Kernel11Ideal Cert.Kernel11Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![0, 0] ∧ win0_1.index t = ![0, 0, t.val] ∧ win0_2.index t = ![0, t.val] ∧ win0_3.index t = ![0, t.val] :=
  (by decide +kernel : ∀ t : Fin grid0.N, _)

/-- The argument arrays. -/
abbrev argC (c : Dev nD) : S1x2048.Idx → EReal := m ((c.tc : Thread nD τ).loc main_arg0)
abbrev argX (c : Dev nD) : S2048.Idx → EReal := m ((c.tc : Thread nD τ).loc main_arg1)
abbrev argW (c : Dev nD) : S2x2048x12288.Idx → EReal := m ((c.tc : Thread nD τ).loc main_arg2)
abbrev argB (c : Dev nD) : S2x12288.Idx → EReal := m ((c.tc : Thread nD τ).loc main_arg3)

/-- A number times its logistic. -/
def unit (z : EReal) : EReal := z * Ideal.div 1 (1 + Ideal.exp (-z))

/-- The eight conditioning rows: the contexts', the latents', and six of zeros. -/
def rows (y : S1x2048.Idx → EReal) (x : S2048.Idx → EReal) (r : Fin 8) (k : Fin 2048) : EReal :=
  if r = 1 then unit (y (ix2 0 k)) else if r = 0 then unit (x (ix1 k)) else 0

/-- Every conditioning row against the first layer's weights, plus its offsets. -/
def modulation (y : S1x2048.Idx → EReal) (x : S2048.Idx → EReal) (w : S2x2048x12288.Idx → EReal) (b : S2x12288.Idx → EReal) : S8x12288.Idx → EReal := fun i =>
  (∑ k : Fin 2048, rows y x (i 0) k * w (ix3 0 k (i 1))) + b (ix2 0 (i 1))

theorem point_lt (t : Fin cfg0.N) : t.val < 12 := lt_of_lt_of_eq t.isLt N_0

/-- Entry `p` of a row put in at row `k` lands at `(r, q)` exactly when `p` is `q` and `r` is `k`. -/
theorem row_lands (s : IVec S1 32) (k : Fin 8) (hk : (s (ix1 0)).toInt = (k.val : Int)) (p q : Fin 2048) (r : Fin 8) :
    scatter_S8x2048_S1_S2048_0_0_0_0.resultIdx? (ix1 p) s = some (ix2 r q) ↔ p = q ∧ r = k := by
  have w0 : scatter_S8x2048_S1_S2048_0_0_0_0.window (ix1 p) 0 = 0 := rfl
  have w1 : scatter_S8x2048_S1_S2048_0_0_0_0.window (ix1 p) 1 = p.val := rfl
  have s1 : scatter_S8x2048_S1_S2048_0_0_0_0.start (ix1 p) s 1 = 0 := rfl
  have s0 : scatter_S8x2048_S1_S2048_0_0_0_0.start (ix1 p) s 0 = (k.val : Int) := by
    rw [← hk]
    refine congrArg (fun j => (s j).toInt) ?_
    funext a
    match a with
    | ⟨0, _⟩ => exact Subsingleton.elim (α := Fin 1) _ _
  refine (Routing.resultIdx?_ix2 (R := 8) (C := 2048) scatter_S8x2048_S1_S2048_0_0_0_0 (ix1 p) s r q).trans ?_
  rw [s0, w0, s1, w1, Fin.ext_iff, Fin.ext_iff]
  omega

/-- A row put in at row `k`: the row there, the array elsewhere. -/
theorem row_put (x : S8x2048.Idx → EReal) (s : IVec S1 32) (u : S2048.Idx → EReal) (k : Fin 8) (hk : (s (ix1 0)).toInt = (k.val : Int)) (r : Fin 8) (q : Fin 2048) :
    Host.scatter scatter_S8x2048_S1_S2048_0_0_0_0 (fun _ b => b) x s u (ix2 r q) = if r = k then u (ix1 q) else x (ix2 r q) := by
  have e : ∀ j : S2048.Idx, ∃ p : Fin 2048, j = ix1 p := fun j => ⟨j 0, by funext a; match a with | ⟨0, _⟩ => rfl⟩
  by_cases h : r = k
  · rw [if_pos h]
    refine Routing.scatter_set_hit _ x s u _ _ (fun j hj => ?_) (ix1 q) ((row_lands s k hk q q r).2 ⟨rfl, h⟩)
    obtain ⟨p, rfl⟩ := e j
    rw [((row_lands s k hk p q r).1 hj).1]
  · rw [if_neg h]
    refine Routing.scatter_set_miss _ x s u _ fun j hj => ?_
    obtain ⟨p, rfl⟩ := e j
    exact h ((row_lands s k hk p q r).1 hj).2

/-- The unit of a vector, as the host computes it. -/
def unitOf (v : S2048.Idx → EReal) : S2048.Idx → EReal :=
  mulf (F := Ideal) (φ := .f32) v (Host.divf (broadcastInDim S2048 ![] bcast_S_S2048 (constant S_ .f32 0x3F800000#32))
    (addf (broadcastInDim S2048 ![] bcast_S_S2048 (constant S_ .f32 0x3F800000#32)) (Host.exp (Host.negf v))))

theorem unitOf_at (v : S2048.Idx → EReal) (k : Fin 2048) : unitOf v (ix1 k) = unit (v (ix1 k)) := by
  unfold unit
  pointwise [unitOf]

/-- The conditioning rows as the launch finds them: the two units put into an array of zeros. -/
theorem entry_rows (c : Dev nD) : (V m c main_v7 : S8x2048.Idx → EReal)
      = Host.scatter scatter_S8x2048_S1_S2048_0_0_0_0 (fun _ b => b)
          (Host.scatter scatter_S8x2048_S1_S2048_0_0_0_0 (fun _ b => b) (broadcastInDim S8x2048 ![] bcast_S_S8x2048 (constant (F := Ideal) S_ .f32 0x00000000#32))
            (broadcastInDim S1 ![] bcast_S_S1 (constantI S_ 32 0#32)) (unitOf (argX m c)))
          (broadcastInDim S1 ![] bcast_S_S1 (constantI S_ 32 1#32)) (unitOf (shapeCast S2048 (argC m c) shapeCasts_S1x2048_S2048)) := by
  unfold V
  simp only [hostOps0, hostOps0_1, hostOps0_2, hostOps0_3, hostOps0_4, List.flatten_cons, List.flatten_nil, List.cons_append, List.nil_append, List.append_nil]
  after_results_simp
  rfl

/-- The offsets as the launch finds them. -/
theorem entry_offsets (c : Dev nD) : (V m c main_v10 : S1x12288.Idx → EReal)
      = broadcastInDim S1x12288 ![1] bcast_S12288_S1x12288_1 (shapeCast S12288 (extractStridedSlice S1x12288 ![0, 0] (argB m c) slices_S2x12288_S1x12288_0_0) shapeCasts_S1x12288_S12288) := by
  unfold V
  simp only [hostOps0, hostOps0_1, hostOps0_2, hostOps0_3, hostOps0_4, List.flatten_cons, List.flatten_nil, List.cons_append, List.nil_append, List.append_nil]
  after_results_simp
  rfl

theorem entry_rows_at (c : Dev nD) (r : Fin 8) (k : Fin 2048) : (V m c main_v7 : S8x2048.Idx → EReal) (ix2 r k) = rows (argC m c) (argX m c) r k := by
  rw [entry_rows, row_put _ _ _ 1 rfl, row_put _ _ _ 0 rfl, unitOf_at, unitOf_at]
  unfold rows
  pointwise

theorem entry_offsets_at (c : Dev nD) (q : Fin 12288) : (V m c main_v10 : S1x12288.Idx → EReal) (ix2 0 q) = argB m c (ix2 0 q) := by
  rw [entry_offsets]
  pointwise

theorem rows_at (c : Dev nD) (t : Fin cfg0.N) (r : Fin 8) (k : Fin 2048) :
    (iblk m c 0 t : S8x2048.Idx → EReal) (ix2 r k) = rows (argC m c) (argX m c) r k := by
  have hw := windows t
  refine Eq.trans ?_ (entry_rows_at m c r k)
  blk_ext [iblk, hw]

theorem weights_at (c : Dev nD) (t : Fin cfg0.N) (k : Fin 2048) (q : Fin 1024) :
    (iblk m c 1 t : S1x2048x1024.Idx → EReal) (ix3 0 k q) = argW m c (ix3 0 k ⟨1024 * t.val + q.val, by have := point_lt t; omega⟩) := by
  have hw := windows t
  blk_ext [iblk, V, hw]

theorem offsets_at (c : Dev nD) (t : Fin cfg0.N) (q : Fin 1024) :
    (iblk m c 2 t : S1x1024.Idx → EReal) (ix2 0 q) = argB m c (ix2 0 ⟨1024 * t.val + q.val, by have := point_lt t; omega⟩) := by
  have hw := windows t
  refine Eq.trans ?_ (entry_offsets_at m c ⟨1024 * t.val + q.val, by have := point_lt t; omega⟩)
  blk_ext [iblk, hw]

theorem product_at (x : S8x2048.Idx → EReal) (w : S1x2048x1024.Idx → EReal) (b : S1x1024.Idx → EReal) (r : Fin 8) (q : Fin 1024) :
    (k0_pay2 (F := Ideal) x (k0_pay1 (F := Ideal) w) b (ix2 r q) : EReal) = (∑ k : Fin 2048, x (ix2 r k) * w (ix3 0 k q)) + b (ix2 0 q) := by
  pointwise [k0_pay1, k0_pay2]

theorem out_at (c : Dev nD) (t : Fin cfg0.N) (r : Fin 8) (q : Fin 1024) :
    (outsAt0 (F := Ideal) m c t (ix2 r q) : EReal)
      = modulation (argC m c) (argX m c) (argW m c) (argB m c) (ix2 r ⟨1024 * t.val + q.val, by have := point_lt t; omega⟩) := by
  unfold outsAt0
  frame_out
  rw [product_at]
  unfold modulation
  rw [offsets_at m c t q]
  exact congrArg (· + _) (Finset.sum_congr rfl fun k _ => congrArg₂ (· * ·) (rows_at m c t r k) (weights_at m c t k q))

theorem result (c : Dev nD) : (dats m 0 c).arrAt 3 cfg0.N = modulation (argC m c) (argX m c) (argW m c) (argB m c) := by
  refine (dats m 0 c).arrAt_eq_of_covers 3 _ (by decide +kernel) fun t hf y => ?_
  have hw := windows t
  blk_simp
  rw [after0_3]
  have hy : (y : S8x1024.Idx) = ix2 (y 0) (y 1) := by funext a; match a with | ⟨0, _⟩ => rfl | ⟨1, _⟩ => rfl
  refine (congrArg (outsAt0 (F := Ideal) m c t) hy).trans ((out_at m c t (y 0) (y 1)).trans ?_)
  blk_ext [hw]

theorem value : θ_run defs (onTc (τ := τ) (main (F := Ideal))) ⟨m, fun _ => 0, ρ⟩ (fun r => ∀ c : Dev nD,
      r.2.mem ((c.tc : Thread nD τ).loc main_v11) = modulation (argC m c) (argX m c) (argW m c) (argB m c)) :=
  (θ_run defs _ _).mono (fun _ h c => (h c).1.trans (result m c)) (Value.run_blocks m ρ)

end Cert.Kernel11Ideal.Modulation

namespace Cert.Proof.Modulation

open Idealize.ShloMosaic Idealize.ShloMosaic.TcCoe Idealize.ShloMosaic.Tactic
open Idealize.SL.Sem
open Cert.Reference11Ideal

theorem reference_at (y : S1x2048.Idx → EReal) (x : S2048.Idx → EReal) (w : S2x2048x12288.Idx → EReal) (b : S2x12288.Idx → EReal) :
    Read.val_main_v19 (F := Ideal) y x w b = Cert.Kernel11Ideal.Modulation.modulation y x w b := by
  funext i
  unfold Cert.Kernel11Ideal.Modulation.modulation Read.val_main_v19
  pointwise [Read.val_main_call0_v0, Read.val_main_call0_v1, Read.val_main_call0_cst, Read.val_main_call0_v2, Read.val_main_call0_v3, Read.val_main_call0_cst_0, Read.val_main_call0_v4, Read.val_main_call0_v5, Read.val_main_v0, Read.val_main_v1, Read.val_main_v2, Read.val_main_v3, Read.val_main_v4, Read.val_main_v5, Read.val_main_v6, Read.val_main_v7, Read.val_main_call1_v0, Read.val_main_call1_v1, Read.val_main_call1_cst, Read.val_main_call1_v2, Read.val_main_call1_v3, Read.val_main_call1_cst_0, Read.val_main_call1_v4, Read.val_main_call1_v5, Read.val_main_v8, Read.val_main_v9, Read.val_main_v10, Read.val_main_v11, Read.val_main_v12, Read.val_main_v13, Read.val_main_v14, Read.val_main_v15, Read.val_main_v16, Read.val_main_v17, Read.val_main_v18]
  have h8 : (i 0).val < 8 := (i 0).isLt
  split <;> rename_i hi
  · have e : ∀ k, Cert.Kernel11Ideal.Modulation.rows y x (i 0) k = Cert.Kernel11Ideal.Modulation.unit (x (ix1 k)) := fun k => by
      unfold Cert.Kernel11Ideal.Modulation.rows
      rw [show i 0 = (0 : Fin 8) from Fin.ext (by show (i 0).val = 0; omega)]
      rfl
    simp only [e]
    rfl
  · split <;> rename_i hj
    · have e : ∀ k, Cert.Kernel11Ideal.Modulation.rows y x (i 0) k = Cert.Kernel11Ideal.Modulation.unit (y (ix2 0 k)) := fun k => by
        unfold Cert.Kernel11Ideal.Modulation.rows
        rw [show i 0 = (1 : Fin 8) from Fin.ext (by show (i 0).val = 1; omega)]
        rfl
      have f : (⟨(i 0).val - 1, hj⟩ : Fin 1) = 0 := Subsingleton.elim _ _
      simp only [e, f]
      rfl
    · have e : ∀ k, Cert.Kernel11Ideal.Modulation.rows y x (i 0) k = 0 := fun k => by
        unfold Cert.Kernel11Ideal.Modulation.rows
        rw [if_neg fun h => hj (by rw [h]; decide), if_neg fun h => hi (by rw [h]; decide)]
      simp only [e, zero_mul, Finset.sum_const_zero, zero_add]

theorem frame_reference : @Cert.quiescent_Reference11Ideal Cert.Reference11Ideal.Gen.facts := fun m g _ =>
  (θ_run Cert.Reference11Ideal.defs _ _).mono (fun _ h => ⟨fun c => (h c).2, sem_eq_zero_of_no_sems rfl _⟩) (Cert.Reference11Ideal.Value.run m g)

theorem algebraic : @Cert.algebraic_Kernel11Ideal_Reference11Ideal Cert.Kernel11Ideal.Gen.facts Cert.Reference11Ideal.Gen.facts := fun m g m' g' _ e => by
  refine ⟨fun c => Cert.Kernel11Ideal.Modulation.modulation (Cert.Kernel11Ideal.Modulation.argC m c) (Cert.Kernel11Ideal.Modulation.argX m c) (Cert.Kernel11Ideal.Modulation.argW m c) (Cert.Kernel11Ideal.Modulation.argB m c), ?_, ?_⟩
  · exact (θ_run Cert.Kernel11Ideal.defs _ _).mono (fun _ h c => ⟨h.1 c, h.2.1 c⟩)
      (θ_run_and (Cert.Kernel11Ideal.Modulation.value m g) (Cert.Kernel11Ideal.Gen.frame m g))
  · refine (θ_run Cert.Reference11Ideal.defs _ _).mono (fun _ h c => ⟨?_, (h c).2⟩) (Cert.Reference11Ideal.Value.run m' g')
    obtain ⟨e0, e1, e2, e3⟩ := e c
    rw [(h c).1, Read.val_main_v19_eq, e0, e1, e2, e3]
    exact reference_at _ _ _ _

end Cert.Proof.Modulation

end
-- ==== Proof.HgrnPost.lean ====
/-
  The end of the HGRN2 mixer: the two directions added, normed head by head and gated.
-/
module

public import proofs.«01_k».proof.Defs
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel12Ideal.HgrnPost

open Cert.Kernel12Ideal Cert.Kernel12Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![t.val, 0] ∧ win0_1.index t = ![t.val, 0] ∧ win0_2.index t = ![t.val, 9] ∧ win0_3.index t = ![0, 0] ∧ win0_4.index t = ![t.val, 0] :=
  (by decide +kernel : ∀ t : Fin grid0.N, _)

/-- The argument arrays. -/
abbrev argF (c : Dev nD) : S8448x512.Idx → EReal := m ((c.tc : Thread nD τ).loc main_arg0)
abbrev argB (c : Dev nD) : S8448x512.Idx → EReal := m ((c.tc : Thread nD τ).loc main_arg1)
abbrev argC (c : Dev nD) : S8448x6144.Idx → EReal := m ((c.tc : Thread nD τ).loc main_arg2)
abbrev argG (c : Dev nD) : S128.Idx → EReal := m ((c.tc : Thread nD τ).loc main_arg3)

/-- Column `q`'s head starts here. -/
theorem head_lt (q : Fin 512) (k : Fin 128) : q.val / 128 * 128 + k.val < 512 := by omega

/-- Entry `q` of a row of four heads: over the root of its head's mean square, times the gain `g`, times the unit of `z`. -/
def headed (row : Fin 512 → EReal) (g : Fin 128 → EReal) (z : EReal) (q : Fin 512) : EReal :=
  row q * Ideal.rsqrt (Ideal.div (∑ k : Fin 128, row ⟨q.val / 128 * 128 + k.val, head_lt q k⟩ * row ⟨q.val / 128 * 128 + k.val, head_lt q k⟩)
      (Ideal.ofBits FTy.f32 0x43000000#32) + Ideal.ofBits FTy.f32 0x358637BD#32)
    * g ⟨q.val % 128, Nat.mod_lt _ (by decide)⟩ * (z * Ideal.logistic z)

/-- The sum of the two directions, normed head by head and gated by columns 4608 on. -/
def gated (f b : S8448x512.Idx → EReal) (z : S8448x6144.Idx → EReal) (g : S128.Idx → EReal) : S8448x512.Idx → EReal := fun i =>
  headed (fun q => f (ix2 (i 0) q) + b (ix2 (i 0) q)) (fun k => g (ix1 k)) (z (ix2 (i 0) ⟨4608 + (i 1).val, by have : (i 1).val < 512 := (i 1).isLt; omega⟩)) (i 1)

theorem point_lt (t : Fin cfg0.N) : t.val < 33 := lt_of_lt_of_eq t.isLt N_0

theorem product_at (x y : S256x512.Idx → EReal) (g : S1x128.Idx → EReal) (u : S256x512.Idx → EReal) (r : Fin 256) (q : Fin 512) :
    (k0_pay1 (F := Ideal) (k0_pay2 (F := Ideal) x y) (k0_pay3 (F := Ideal) x y g) (k0_pay4 (F := Ideal) x y g) (k0_pay5 (F := Ideal) x y) (k0_pay6 (F := Ideal) x y) g g u (ix2 r q) : EReal)
      = headed (fun k => x (ix2 r k) + y (ix2 r k)) (fun k => g (ix2 0 k)) (u (ix2 r q)) q := by
  unfold headed
  pointwise [k0_pay1, k0_pay2, k0_pay3, k0_pay4, k0_pay5, k0_pay6]
  have hq : q.val < 512 := q.isLt
  split
  · rename_i h
    have e1 : q.val / 128 * 128 = 0 := by omega
    have e2 : q.val % 128 = q.val := by omega
    simp only [e1, e2, Nat.zero_add]
  · split
    · rename_i h h'
      have e1 : q.val / 128 * 128 = 128 := by omega
      have e2 : q.val % 128 = q.val - 128 := by omega
      have e3 : 128 + (q.val - 128) = q.val := by omega
      simp only [e1, e2, e3, Fin.eta]
    · split
      · rename_i h h' h''
        have e1 : q.val / 128 * 128 = 256 := by omega
        have e2 : q.val % 128 = q.val - 128 - 128 := by omega
        have e3 : 256 + (q.val - 128 - 128) = q.val := by omega
        simp only [e1, e2, e3, Fin.eta]
      · rename_i h h' h''
        have e1 : q.val / 128 * 128 = 384 := by omega
        have e2 : q.val % 128 = q.val - 128 - 128 - 128 := by omega
        have e3 : 384 + (q.val - 128 - 128 - 128) = q.val := by omega
        simp only [e1, e2, e3, Fin.eta]

theorem forward_at (c : Dev nD) (t : Fin cfg0.N) (r : Fin 256) (k : Fin 512) :
    (iblk m c 0 t : S256x512.Idx → EReal) (ix2 r k) = argF m c (ix2 ⟨256 * t.val + r.val, by have := point_lt t; omega⟩ k) := by
  have hw := windows t
  blk_ext [iblk, V, hw]

theorem backward_at (c : Dev nD) (t : Fin cfg0.N) (r : Fin 256) (k : Fin 512) :
    (iblk m c 1 t : S256x512.Idx → EReal) (ix2 r k) = argB m c (ix2 ⟨256 * t.val + r.val, by have := point_lt t; omega⟩ k) := by
  have hw := windows t
  blk_ext [iblk, V, hw]

theorem gate_at (c : Dev nD) (t : Fin cfg0.N) (r : Fin 256) (k : Fin 512) :
    (iblk m c 2 t : S256x512.Idx → EReal) (ix2 r k) = argC m c (ix2 ⟨256 * t.val + r.val, by have := point_lt t; omega⟩ ⟨4608 + k.val, by omega⟩) := by
  have hw := windows t
  blk_ext [iblk, V, hw]

theorem gain_at (c : Dev nD) (t : Fin cfg0.N) (k : Fin 128) :
    (iblk m c 3 t : S1x128.Idx → EReal) (ix2 0 k) = argG m c (ix1 k) := by
  have hw := windows t
  unfold iblk
  blk_simp
  entry_read
  pointwise
  blk_ext [hw]

theorem out_at (c : Dev nD) (t : Fin cfg0.N) (r : Fin 256) (q : Fin 512) :
    (out0_4 (F := Ideal) (iblk m c 0 t) (iblk m c 1 t) (iblk m c 2 t) (iblk m c 3 t) (ix2 r q) : EReal)
      = gated (argF m c) (argB m c) (argC m c) (argG m c) (ix2 ⟨256 * t.val + r.val, by have := point_lt t; omega⟩ q) := by
  frame_out
  rw [product_at]
  unfold gated
  rw [gate_at m c t r q]
  exact congrArg₂ (fun a b => headed a b _ q) (funext fun k => congrArg₂ (· + ·) (forward_at m c t r k) (backward_at m c t r k)) (funext fun k => gain_at m c t k)

theorem result (c : Dev nD) : (dats m 0 c).arrAt 4 cfg0.N = gated (argF m c) (argB m c) (argC m c) (argG m c) := by
  refine (dats m 0 c).arrAt_eq_of_covers 4 _ (by decide +kernel) fun t hf y => ?_
  have hw := windows t
  blk_simp
  rw [after0_4]
  have hy : (y : S256x512.Idx) = ix2 (y 0) (y 1) := by funext a; match a with | ⟨0, _⟩ => rfl | ⟨1, _⟩ => rfl
  refine (congrArg (out0_4 (F := Ideal) _ _ _ _) hy).trans ((out_at m c t (y 0) (y 1)).trans ?_)
  blk_ext [hw]

theorem value : θ_run defs (onTc (τ := τ) (main (F := Ideal))) ⟨m, fun _ => 0, ρ⟩ (fun r => ∀ c : Dev nD,
      r.2.mem ((c.tc : Thread nD τ).loc main_v1) = gated (argF m c) (argB m c) (argC m c) (argG m c)) :=
  (θ_run defs _ _).mono (fun _ h c => (h c).1.trans (result m c)) (Value.run_blocks m ρ)

end Cert.Kernel12Ideal.HgrnPost

namespace Cert.Proof.HgrnPost

open Idealize.ShloMosaic Idealize.ShloMosaic.TcCoe Idealize.ShloMosaic.Tactic
open Idealize.SL.Sem
open Cert.Reference12Ideal

theorem reference_at (f b : S8448x512.Idx → EReal) (z : S8448x6144.Idx → EReal) (g : S128.Idx → EReal) :
    Read.val_main_v21 (F := Ideal) f b z g = Cert.Kernel12Ideal.HgrnPost.gated f b z g := by
  funext i
  unfold Cert.Kernel12Ideal.HgrnPost.gated Cert.Kernel12Ideal.HgrnPost.headed Ideal.logistic Read.val_main_v21
  pointwise [Read.val_main_v0, Read.val_main_v1, Read.val_main_v2, Read.val_main_cst, Read.val_main_v3, Read.val_main_v4, Read.val_main_cst_0, Read.val_main_v5, Read.val_main_v6, Read.val_main_cst_1, Read.val_main_v7, Read.val_main_v8, Read.val_main_v9, Read.val_main_v10, Read.val_main_v11, Read.val_main_v12, Read.val_main_v13, Read.val_main_v14, Read.val_main_v15, Read.val_main_v16, Read.val_main_v17, Read.val_main_v18, Read.val_main_call0_v0, Read.val_main_call0_v1, Read.val_main_call0_cst, Read.val_main_call0_v2, Read.val_main_call0_v3, Read.val_main_call0_cst_0, Read.val_main_call0_v4, Read.val_main_call0_v5, Read.val_main_v19, Read.val_main_v20]

theorem frame_reference : @Cert.quiescent_Reference12Ideal Cert.Reference12Ideal.Gen.facts := fun m g _ =>
  (θ_run Cert.Reference12Ideal.defs _ _).mono (fun _ h => ⟨fun c => (h c).2, sem_eq_zero_of_no_sems rfl _⟩) (Cert.Reference12Ideal.Value.run m g)

theorem algebraic : @Cert.algebraic_Kernel12Ideal_Reference12Ideal Cert.Kernel12Ideal.Gen.facts Cert.Reference12Ideal.Gen.facts := fun m g m' g' _ e => by
  refine ⟨fun c => Cert.Kernel12Ideal.HgrnPost.gated (Cert.Kernel12Ideal.HgrnPost.argF m c) (Cert.Kernel12Ideal.HgrnPost.argB m c) (Cert.Kernel12Ideal.HgrnPost.argC m c) (Cert.Kernel12Ideal.HgrnPost.argG m c), ?_, ?_⟩
  · exact (θ_run Cert.Kernel12Ideal.defs _ _).mono (fun _ h c => ⟨h.1 c, h.2.1 c⟩)
      (θ_run_and (Cert.Kernel12Ideal.HgrnPost.value m g) (Cert.Kernel12Ideal.Gen.frame m g))
  · refine (θ_run Cert.Reference12Ideal.defs _ _).mono (fun _ h c => ⟨?_, (h c).2⟩) (Cert.Reference12Ideal.Value.run m' g')
    obtain ⟨e0, e1, e2, e3⟩ := e c
    rw [(h c).1, Read.val_main_v21_eq, e0, e1, e2, e3]
    exact reference_at _ _ _ _

end Cert.Proof.HgrnPost

end
-- ==== Proof.SecondColsValue.lean ====
/-
  In the second layer, the column projection's array, at the extended reals: every entry is a row of activations times a column of weights.
-/
module

public import proofs.«01_k».proof.Proof.Gen.Kernel13Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel13Ideal.Cols

open Cert.Kernel13Ideal Cert.Kernel13Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![t.val % 6, 0] ∧ win0_1.index t = ![1, 0, t.val / 6] ∧ win0_2.index t = ![t.val % 6, t.val / 6] :=
  (by decide +kernel : ∀ t : Fin grid0.N, _)

/-- The two argument arrays. -/
abbrev argH (c : Dev nD) : S8448x2048.Idx → EReal := m ((c.tc : Thread nD τ).loc main_arg0)
abbrev argW (c : Dev nD) : S2x2048x14336.Idx → EReal := m ((c.tc : Thread nD τ).loc main_arg1)

/-- The projection: activations `h` times the second layer's weights. -/
def proj (h : S8448x2048.Idx → EReal) (w : S2x2048x14336.Idx → EReal) : S8448x6144.Idx → EReal := fun i =>
  ∑ k : Fin 2048, h (ix2 (i 0) k) * w (ix3 1 k ⟨(i 1).val, lt_trans (i 1).isLt (by decide)⟩)

theorem point_lt (t : Fin cfg0.N) : t.val < 36 := lt_of_lt_of_eq t.isLt N_0

/-- The weights a point holds: columns `1024 * (t / 6)` on. -/
theorem weights_at (c : Dev nD) (t : Fin cfg0.N) (k : Fin 2048) (q : Fin 1024) :
    k0_pay1 (iblk m c 1 t) (ix2 k q)
      = argW m c (ix3 1 k ⟨1024 * (t.val / 6) + q.val, by have := point_lt t; omega⟩) := by
  have hw := windows t
  pointwise [k0_pay1]
  blk_ext [iblk, V, hw]

/-- The rows a point holds: rows `1408 * (t % 6)` on. -/
theorem rows_at (c : Dev nD) (t : Fin cfg0.N) (r : Fin 1408) (k : Fin 2048) :
    (iblk m c 0 t : FVec Ideal S1408x2048 .bf16) (ix2 r k)
      = argH m c (ix2 ⟨1408 * (t.val % 6) + r.val, by omega⟩ k) := by
  have hw := windows t
  blk_ext [iblk, V, hw]

theorem product_at (x : S1408x2048.Idx → EReal) (s : S2048x1024.Idx → EReal) (r : Fin 1408) (q : Fin 1024) :
    (k0_pay2 (F := Ideal) x s (ix2 r q) : EReal) = ∑ k : Fin 2048, x (ix2 r k) * s (ix2 k q) := by
  pointwise [k0_pay2]

/-- The weights kept from point to point. -/
theorem kept_at (c : Dev nD) (k : Fin 2048) (q : Fin 1024) : ∀ (n : ℕ) (hn : n < cfg0.N),
    (outsAt0 m c n hn).2 (ix2 k q)
      = argW m c (ix3 1 k ⟨1024 * (n / 6) + q.val, by have := point_lt ⟨n, hn⟩; simp only at this; omega⟩)
  | n, hn => by
    by_cases h0 : n % 6 = 0
    · rw [outsAt0_A m c ⟨n, hn⟩ h0]
      frame_out
      exact weights_at m c ⟨n, hn⟩ k q
    · rw [outsAt0_B m c ⟨n, hn⟩ h0]
      have hlt : n - 1 < n := by omega
      have ih := kept_at c k q (n - 1) (by omega)
      frame_out
      have e : (n - 1) / 6 = n / 6 := by omega
      simp only [e] at ih
      exact ih

theorem out_at (c : Dev nD) (t : Fin cfg0.N) (r : Fin 1408) (q : Fin 1024) :
    (outsAt0 m c t.val t.isLt).1 (ix2 r q)
      = ∑ k : Fin 2048, argH m c (ix2 ⟨1408 * (t.val % 6) + r.val, by omega⟩ k)
          * argW m c (ix3 1 k ⟨1024 * (t.val / 6) + q.val, by have := point_lt t; omega⟩) := by
  by_cases h0 : t.val % 6 = 0
  · rw [outsAt0_A m c t h0]
    frame_out
    rw [product_at]
    exact Finset.sum_congr rfl fun k _ => congrArg₂ (· * ·) (rows_at m c t r k) (weights_at m c t k q)
  · have hk := fun k => kept_at m c k q (t.val - 1) (Nat.lt_of_le_of_lt (Nat.sub_le _ _) t.isLt)
    have e : (t.val - 1) / 6 = t.val / 6 := by omega
    simp only [e] at hk
    rw [outsAt0_B m c t h0]
    frame_out
    simp only [read_unread_whole]
    rw [product_at]
    exact Finset.sum_congr rfl fun k _ => congrArg₂ (· * ·) (rows_at m c t r k) (hk k)

/-- The array the kernel leaves. -/
theorem result (c : Dev nD) : (dats m 0 c).arrAt 2 cfg0.N
    = proj (argH m c) (argW m c) := by
  refine (dats m 0 c).arrAt_eq_of_covers 2 _ (by decide +kernel) fun t hf y => ?_
  have hw := windows t
  blk_simp
  rw [after0_2]
  have hy : (y : S1408x1024.Idx) = ix2 (y 0) (y 1) := by funext a; match a with | ⟨0, _⟩ => rfl | ⟨1, _⟩ => rfl
  refine (congrArg (outsAt0 m c t.val t.isLt).1 hy).trans ((out_at m c t (y 0) (y 1)).trans ?_)
  unfold proj
  refine Finset.sum_congr rfl fun k _ => ?_
  congr 1 <;> blk_ext [hw]

theorem value : θ_run defs (onTc (τ := τ) (main (F := Ideal))) ⟨m, fun _ => 0, ρ⟩ (fun r => ∀ c : Dev nD,
      r.2.mem ((c.tc : Thread nD τ).loc main_v1)
        = proj (argH m c) (argW m c)) :=
  (θ_run defs _ _).mono (fun _ h c => (h c).1.trans (result m c)) (Value.run_blocks m ρ)

end Cert.Kernel13Ideal.Cols

end
-- ==== Proof.SecondColsEqual.lean ====
/-
  In the second layer, the column projection: the kernel's array is the one of the reference.
-/
module

public import proofs.«01_k».proof.Defs
public import proofs.«01_k».proof.Proof.SecondColsValue
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read

@[expose] public section

set_option maxRecDepth 16384

noncomputable section

namespace Cert.Proof.SecondCols

open Idealize.ShloMosaic Idealize.ShloMosaic.TcCoe Idealize.ShloMosaic.Tactic
open Idealize.SL.Sem
open Cert.Reference13Ideal

theorem reference_at (h : S8448x2048.Idx → EReal) (w : S2x2048x14336.Idx → EReal) :
    Read.val_main_v3 (F := Ideal) h w = Cert.Kernel13Ideal.Cols.proj h w := by
  funext i
  rw [Read.val_main_v3_apply, Read.val_main_v2_apply]
  refine Finset.sum_congr rfl fun k _ => ?_
  rw [Read.val_main_v1_apply, Read.val_main_v0_apply]
  congr 1 <;> blk_ext []

theorem frame_reference : @Cert.quiescent_Reference13Ideal Cert.Reference13Ideal.Gen.facts := fun m g _ =>
  (θ_run Cert.Reference13Ideal.defs _ _).mono (fun _ h => ⟨fun c => (h c).2, sem_eq_zero_of_no_sems rfl _⟩) (Cert.Reference13Ideal.Value.run m g)

theorem algebraic : @Cert.algebraic_Kernel13Ideal_Reference13Ideal Cert.Kernel13Ideal.Gen.facts Cert.Reference13Ideal.Gen.facts := fun m g m' g' _ e => by
  refine ⟨fun c => Cert.Kernel13Ideal.Cols.proj (Cert.Kernel13Ideal.Cols.argH m c) (Cert.Kernel13Ideal.Cols.argW m c), ?_, ?_⟩
  · exact (θ_run Cert.Kernel13Ideal.defs _ _).mono (fun _ h c => ⟨h.1 c, h.2.1 c⟩)
      (θ_run_and (Cert.Kernel13Ideal.Cols.value m g) (Cert.Kernel13Ideal.Gen.frame m g))
  · refine (θ_run Cert.Reference13Ideal.defs _ _).mono (fun _ h c => ⟨?_, (h c).2⟩) (Cert.Reference13Ideal.Value.run m' g')
    obtain ⟨e0, e1⟩ := e c
    rw [(h c).1, Read.val_main_v3_eq, e0, e1]
    exact reference_at _ _

end Cert.Proof.SecondCols

end
-- ==== Proof.SecondGatesValue.lean ====
/-
  In the second layer, the gates: the array, at the extended reals: every entry is a row of activations times a column of weights.
-/
module

public import proofs.«01_k».proof.Proof.Gen.Kernel14Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel14Ideal.Gates

open Cert.Kernel14Ideal Cert.Kernel14Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![t.val % 6, 0] ∧ win0_1.index t = ![1, 0, t.val / 6 + 6] ∧ win0_2.index t = ![t.val % 6, t.val / 6] :=
  (by decide +kernel : ∀ t : Fin grid0.N, _)

/-- The two argument arrays. -/
abbrev argH (c : Dev nD) : S8448x2048.Idx → EReal := m ((c.tc : Thread nD τ).loc main_arg0)
abbrev argW (c : Dev nD) : S2x2048x14336.Idx → EReal := m ((c.tc : Thread nD τ).loc main_arg1)

/-- The gates: the logistic of activations `h` times the second layer's weights. -/
def gate (h : S8448x2048.Idx → EReal) (w : S2x2048x14336.Idx → EReal) : S8448x8192.Idx → EReal := fun i =>
  Ideal.logistic (∑ k : Fin 2048, h (ix2 (i 0) k) * w (ix3 1 k ⟨6144 + (i 1).val, Nat.add_lt_add_left (i 1).isLt 6144⟩))

theorem point_lt (t : Fin cfg0.N) : t.val < 48 := lt_of_lt_of_eq t.isLt N_0

/-- The weights a point holds: columns `6144 + 1024 * (t / 6)` on. -/
theorem weights_at (c : Dev nD) (t : Fin cfg0.N) (k : Fin 2048) (q : Fin 1024) :
    k0_pay1 (iblk m c 1 t) (ix2 k q)
      = argW m c (ix3 1 k ⟨6144 + (1024 * (t.val / 6) + q.val), by have := point_lt t; omega⟩) := by
  have hw := windows t
  pointwise [k0_pay1]
  blk_ext [iblk, V, hw]

/-- The rows a point holds: rows `1408 * (t % 6)` on. -/
theorem rows_at (c : Dev nD) (t : Fin cfg0.N) (r : Fin 1408) (k : Fin 2048) :
    (iblk m c 0 t : FVec Ideal S1408x2048 .bf16) (ix2 r k)
      = argH m c (ix2 ⟨1408 * (t.val % 6) + r.val, by omega⟩ k) := by
  have hw := windows t
  blk_ext [iblk, V, hw]

theorem product_at (x : S1408x2048.Idx → EReal) (s : S2048x1024.Idx → EReal) (r : Fin 1408) (q : Fin 1024) :
    (k0_pay2 (F := Ideal) x s (ix2 r q) : EReal) = Ideal.logistic (∑ k : Fin 2048, x (ix2 r k) * s (ix2 k q)) := by
  pointwise [k0_pay2]

/-- The weights kept from point to point. -/
theorem kept_at (c : Dev nD) (k : Fin 2048) (q : Fin 1024) : ∀ (n : ℕ) (hn : n < cfg0.N),
    (outsAt0 m c n hn).2 (ix2 k q)
      = argW m c (ix3 1 k ⟨6144 + (1024 * (n / 6) + q.val), by have := point_lt ⟨n, hn⟩; simp only at this; omega⟩)
  | n, hn => by
    by_cases h0 : n % 6 = 0
    · rw [outsAt0_A m c ⟨n, hn⟩ h0]
      frame_out
      exact weights_at m c ⟨n, hn⟩ k q
    · rw [outsAt0_B m c ⟨n, hn⟩ h0]
      have hlt : n - 1 < n := by omega
      have ih := kept_at c k q (n - 1) (by omega)
      frame_out
      have e : (n - 1) / 6 = n / 6 := by omega
      simp only [e] at ih
      exact ih

theorem out_at (c : Dev nD) (t : Fin cfg0.N) (r : Fin 1408) (q : Fin 1024) :
    (outsAt0 m c t.val t.isLt).1 (ix2 r q)
      = Ideal.logistic (∑ k : Fin 2048, argH m c (ix2 ⟨1408 * (t.val % 6) + r.val, by omega⟩ k)
          * argW m c (ix3 1 k ⟨6144 + (1024 * (t.val / 6) + q.val), by have := point_lt t; omega⟩)) := by
  by_cases h0 : t.val % 6 = 0
  · rw [outsAt0_A m c t h0]
    frame_out
    rw [product_at]
    refine congrArg Ideal.logistic (Finset.sum_congr rfl fun k _ => ?_)
    exact congrArg₂ (· * ·) (rows_at m c t r k) (weights_at m c t k q)
  · have hk := fun k => kept_at m c k q (t.val - 1) (Nat.lt_of_le_of_lt (Nat.sub_le _ _) t.isLt)
    have e : (t.val - 1) / 6 = t.val / 6 := by omega
    simp only [e] at hk
    rw [outsAt0_B m c t h0]
    frame_out
    simp only [read_unread_whole]
    rw [product_at]
    refine congrArg Ideal.logistic (Finset.sum_congr rfl fun k _ => ?_)
    exact congrArg₂ (· * ·) (rows_at m c t r k) (hk k)

/-- The array the kernel leaves. -/
theorem result (c : Dev nD) : (dats m 0 c).arrAt 2 cfg0.N
    = gate (argH m c) (argW m c) := by
  refine (dats m 0 c).arrAt_eq_of_covers 2 _ (by decide +kernel) fun t hf y => ?_
  have hw := windows t
  blk_simp
  rw [after0_2]
  have hy : (y : S1408x1024.Idx) = ix2 (y 0) (y 1) := by funext a; match a with | ⟨0, _⟩ => rfl | ⟨1, _⟩ => rfl
  refine (congrArg (outsAt0 m c t.val t.isLt).1 hy).trans ((out_at m c t (y 0) (y 1)).trans ?_)
  unfold gate
  refine congrArg Ideal.logistic (Finset.sum_congr rfl fun k _ => ?_)
  congr 1 <;> blk_ext [hw]

theorem value : θ_run defs (onTc (τ := τ) (main (F := Ideal))) ⟨m, fun _ => 0, ρ⟩ (fun r => ∀ c : Dev nD,
      r.2.mem ((c.tc : Thread nD τ).loc main_v1)
        = gate (argH m c) (argW m c)) :=
  (θ_run defs _ _).mono (fun _ h c => (h c).1.trans (result m c)) (Value.run_blocks m ρ)

end Cert.Kernel14Ideal.Gates

end
-- ==== Proof.SecondGatesEqual.lean ====
/-
  In the second layer, the gates: the kernel's array is the one of the reference.
-/
module

public import proofs.«01_k».proof.Defs
public import proofs.«01_k».proof.Proof.SecondGatesValue
public import proofs.«01_k».proof.Proof.Gen.Kernel14Ideal
public import proofs.«01_k».proof.Proof.Gen.Reference14Ideal
public import proofs.«01_k».proof.Proof.Gen.Reference14Ideal.Run
public import proofs.«01_k».proof.Proof.Gen.Reference14Ideal.Read

@[expose] public section

set_option maxRecDepth 16384

noncomputable section

namespace Cert.Proof.SecondGates

open Idealize.ShloMosaic Idealize.ShloMosaic.TcCoe Idealize.ShloMosaic.Tactic
open Idealize.SL.Sem
open Cert.Reference14Ideal

theorem reference_at (h : S8448x2048.Idx → EReal) (w : S2x2048x14336.Idx → EReal) :
    Read.val_main_v10 (F := Ideal) h w = Cert.Kernel14Ideal.Gates.gate h w := by
  funext i
  have e : Read.val_main_v3 (F := Ideal) h w i
      = ∑ k : Fin 2048, h (ix2 (i 0) k) * w (ix3 1 k ⟨6144 + (i 1).val, Nat.add_lt_add_left (i 1).isLt 6144⟩) := by
    rw [Read.val_main_v3_apply, Read.val_main_v2_apply]
    refine Finset.sum_congr rfl fun k _ => ?_
    rw [Read.val_main_v1_apply, Read.val_main_v0_apply]
    congr 1 <;> blk_ext []
  rw [Read.val_main_v10_apply, Read.val_main_v9_apply, Read.val_main_v8_apply, Read.val_main_v7_apply, Read.val_main_v6_apply,
    Read.val_main_v5_apply, Read.val_main_v4_apply, Read.val_main_cst_apply, Read.val_main_cst_0_apply, e]
  unfold Cert.Kernel14Ideal.Gates.gate Ideal.logistic
  simp

theorem frame_reference : @Cert.quiescent_Reference14Ideal Cert.Reference14Ideal.Gen.facts := fun m g _ =>
  (θ_run Cert.Reference14Ideal.defs _ _).mono (fun _ h => ⟨fun c => (h c).2, sem_eq_zero_of_no_sems rfl _⟩) (Cert.Reference14Ideal.Value.run m g)

theorem algebraic : @Cert.algebraic_Kernel14Ideal_Reference14Ideal Cert.Kernel14Ideal.Gen.facts Cert.Reference14Ideal.Gen.facts := fun m g m' g' _ e => by
  refine ⟨fun c => Cert.Kernel14Ideal.Gates.gate (Cert.Kernel14Ideal.Gates.argH m c) (Cert.Kernel14Ideal.Gates.argW m c), ?_, ?_⟩
  · exact (θ_run Cert.Kernel14Ideal.defs _ _).mono (fun _ h c => ⟨h.1 c, h.2.1 c⟩)
      (θ_run_and (Cert.Kernel14Ideal.Gates.value m g) (Cert.Kernel14Ideal.Gen.frame m g))
  · refine (θ_run Cert.Reference14Ideal.defs _ _).mono (fun _ h c => ⟨?_, (h c).2⟩) (Cert.Reference14Ideal.Value.run m' g')
    obtain ⟨e0, e1⟩ := e c
    rw [(h c).1, Read.val_main_v10_eq, e0, e1]
    exact reference_at _ _

end Cert.Proof.SecondGates

end
-- ==== Proof.SecondMergeValue.lean ====
/-
  In the second layer, the merge's array, at the extended reals: the four branches' projections, each times its gates, added up.
-/
module

public import proofs.«01_k».proof.Proof.Gen.Kernel15Ideal.Value
public import Idealize.ShloMosaic.Lib.Pipeline.ValueKit
public import Idealize.ShloMosaic.Lib.Pointwise

@[expose] public section

set_option maxRecDepth 16384

noncomputable section

namespace Cert.Kernel15Ideal.Merge

open Cert.Kernel15Ideal Cert.Kernel15Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem windows : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0, 0] ∧ win0_6.index t = ![t.val, 0] :=
  (by decide +kernel : ∀ t : Fin grid0.N, _)

/-- The six argument arrays. -/
abbrev argY (c : Dev nD) : Fin 4 → S8448x512.Idx → EReal :=
  ![m ((c.tc : Thread nD τ).loc main_arg0), m ((c.tc : Thread nD τ).loc main_arg1), m ((c.tc : Thread nD τ).loc main_arg2), m ((c.tc : Thread nD τ).loc main_arg3)]
abbrev argG (c : Dev nD) : S8448x8192.Idx → EReal := m ((c.tc : Thread nD τ).loc main_arg4)
abbrev argW (c : Dev nD) : S2x4x512x2048.Idx → EReal := m ((c.tc : Thread nD τ).loc main_arg5)

/-- Branch `b`'s projection at row `r`, column `d`. -/
def branch (y : S8448x512.Idx → EReal) (w : S2x4x512x2048.Idx → EReal) (b : Fin 4) (r : Fin 8448) (d : Fin 2048) : EReal :=
  ∑ k : Fin 512, y (ix2 r k) * w (ix4 1 b k d)

/-- The merge of branches `y` under gates `g`. -/
def merged (y : Fin 4 → S8448x512.Idx → EReal) (g : S8448x8192.Idx → EReal) (w : S2x4x512x2048.Idx → EReal) : S8448x2048.Idx → EReal := fun i =>
  ∑ b : Fin 4, g (ix2 (i 0) ⟨2048 * b.val + (i 1).val, by have := (i 1).isLt; have : (i 1).val < 2048 := this; omega⟩) * branch (y b) w b (i 0) (i 1)

theorem point_lt (t : Fin cfg0.N) : t.val < 33 := lt_of_lt_of_eq t.isLt N_0

theorem out_at (c : Dev nD) (t : Fin cfg0.N) (r : Fin 256) (d : Fin 2048) :
    (out0_6 (F := Ideal) (iblk m c 0 t) (iblk m c 1 t) (iblk m c 2 t) (iblk m c 3 t) (iblk m c 4 t) (iblk m c 5 t) (ix2 r d) : EReal)
      = merged (argY m c) (argG m c) (argW m c) (ix2 ⟨256 * t.val + r.val, by have := point_lt t; omega⟩ d) := by
  have hw := windows t
  frame_out
  unfold merged branch
  rw [Fin.sum_univ_four]
  pointwise [k0_pay1, k0_pay2, k0_pay3]
  dsimp only [argG, argW]
  blk_point [iblk, V, hw]

/-- The array the kernel leaves. -/
theorem result (c : Dev nD) : (dats m 0 c).arrAt 6 cfg0.N = merged (argY m c) (argG m c) (argW m c) := by
  refine (dats m 0 c).arrAt_eq_of_covers 6 _ (by decide +kernel) fun t hf y => ?_
  have hw := windows t
  blk_simp
  rw [after0_6]
  have hy : (y : S256x2048.Idx) = ix2 (y 0) (y 1) := by funext a; match a with | ⟨0, _⟩ => rfl | ⟨1, _⟩ => rfl
  refine (congrArg (out0_6 (F := Ideal) _ _ _ _ _ _) hy).trans ((out_at m c t (y 0) (y 1)).trans ?_)
  blk_ext [hw]

theorem value : θ_run defs (onTc (τ := τ) (main (F := Ideal))) ⟨m, fun _ => 0, ρ⟩ (fun r => ∀ c : Dev nD,
      r.2.mem ((c.tc : Thread nD τ).loc main_v8) = merged (argY m c) (argG m c) (argW m c)) :=
  (θ_run defs _ _).mono (fun _ h c => (h c).1.trans (result m c)) (Value.run_blocks m ρ)

end Cert.Kernel15Ideal.Merge

end
-- ==== Proof.SecondMergeEqual.lean ====
/-
  In the second layer, the merge: the kernel's array is the one of the reference.
-/
module

public import proofs.«01_k».proof.Defs
public import proofs.«01_k».proof.Proof.SecondMergeValue
public import proofs.«01_k».proof.Proof.Gen.Kernel15Ideal
public import proofs.«01_k».proof.Proof.Gen.Reference15Ideal
public import proofs.«01_k».proof.Proof.Gen.Reference15Ideal.Run
public import proofs.«01_k».proof.Proof.Gen.Reference15Ideal.Read

@[expose] public section

set_option maxRecDepth 16384

noncomputable section

namespace Cert.Proof.SecondMerge

open Idealize.ShloMosaic Idealize.ShloMosaic.TcCoe Idealize.ShloMosaic.Tactic
open Idealize.SL.Sem
open Cert.Reference15Ideal

theorem reference_at (y : Fin 4 → S8448x512.Idx → EReal) (g : S8448x8192.Idx → EReal) (w : S2x4x512x2048.Idx → EReal) :
    Read.val_main_v12 (F := Ideal) (y 0) (y 1) (y 2) (y 3) g w = Cert.Kernel15Ideal.Merge.merged y g w := by
  funext i
  rw [Read.val_main_v12_apply, Read.val_main_v11_apply, Read.val_main_cst_apply]
  unfold Cert.Kernel15Ideal.Merge.merged Cert.Kernel15Ideal.Merge.branch
  simp only [Ideal.truncf_def, Ideal.ofBits_zero_f32, zero_add, FloatOps.ofBits]
  refine Finset.sum_congr rfl fun b _ => ?_
  rw [Read.val_main_v10_apply, Read.val_main_v9_apply, Read.val_main_v8_apply, Read.val_main_v7_apply]
  refine congrArg₂ (· * ·) ?_ (Finset.sum_congr rfl fun k _ => ?_)
  · blk_ext []
  · rw [Read.val_main_v6_apply, Read.val_main_v5_apply, mul_comm]
    unfold Read.val_main_v4
    refine congrArg₂ (· * ·) ?_ ?_
    · pointwise [Read.val_main_v0, Read.val_main_v1, Read.val_main_v2, Read.val_main_v3]
      fin_vals b with hb
      all_goals simp only [hb, Nat.reduceSub, Nat.reduceLT, ↓reduceDIte]
      all_goals exact congrArg (fun b => y b (ix2 (i 0) k)) (Fin.ext hb.symm)
    · blk_ext []

theorem frame_reference : @Cert.quiescent_Reference15Ideal Cert.Reference15Ideal.Gen.facts := fun m g _ =>
  (θ_run Cert.Reference15Ideal.defs _ _).mono (fun _ h => ⟨fun c => (h c).2, sem_eq_zero_of_no_sems rfl _⟩) (Cert.Reference15Ideal.Value.run m g)

theorem algebraic : @Cert.algebraic_Kernel15Ideal_Reference15Ideal Cert.Kernel15Ideal.Gen.facts Cert.Reference15Ideal.Gen.facts := fun m g m' g' _ e => by
  refine ⟨fun c => Cert.Kernel15Ideal.Merge.merged (Cert.Kernel15Ideal.Merge.argY m c) (Cert.Kernel15Ideal.Merge.argG m c) (Cert.Kernel15Ideal.Merge.argW m c), ?_, ?_⟩
  · exact (θ_run Cert.Kernel15Ideal.defs _ _).mono (fun _ h c => ⟨h.1 c, h.2.1 c⟩)
      (θ_run_and (Cert.Kernel15Ideal.Merge.value m g) (Cert.Kernel15Ideal.Gen.frame m g))
  · refine (θ_run Cert.Reference15Ideal.defs _ _).mono (fun _ h c => ⟨?_, (h c).2⟩) (Cert.Reference15Ideal.Value.run m' g')
    obtain ⟨e0, e1, e2, e3, e4, e5⟩ := e c
    rw [(h c).1, Read.val_main_v12_eq, e0, e1, e2, e3, e4, e5]
    exact reference_at (Cert.Kernel15Ideal.Merge.argY m c) _ _

end Cert.Proof.SecondMerge

end
-- ==== Proof.SecondOutValue.lean ====
/-
  In the second layer, the output projection's array, at the extended reals: the residual plus a gate times a row of activations times a column of weights.
-/
module

public import proofs.«01_k».proof.Proof.Gen.Kernel16Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel16Ideal.Out

open Cert.Kernel16Ideal Cert.Kernel16Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- The stream of row `n`: the first 256 rows are one, the others the second. -/
def stream (n : ℕ) : Fin 2 := if n < 256 then 0 else 1

theorem windows : ∀ t : Fin cfg0.N, win0_0.index t = ![t.val % 33, 0] ∧ win0_1.index t = ![1, 0, t.val / 33] ∧ win0_2.index t = ![t.val % 33, t.val / 33]
    ∧ win0_3.index t = ![if t.val % 33 = 0 then 0 else 1, 0, t.val / 33] ∧ win0_4.index t = ![t.val % 33, t.val / 33] :=
  (by decide +kernel : ∀ t : Fin grid0.N, _)

/-- The four argument arrays. -/
abbrev argH (c : Dev nD) : S8448x2048.Idx → EReal := m ((c.tc : Thread nD τ).loc main_arg0)
abbrev argW (c : Dev nD) : S2x2048x2048.Idx → EReal := m ((c.tc : Thread nD τ).loc main_arg1)

abbrev argX (c : Dev nD) : S8448x2048.Idx → EReal := m ((c.tc : Thread nD τ).loc main_arg2)
abbrev argM (c : Dev nD) : S2x8x2048.Idx → EReal := m ((c.tc : Thread nD τ).loc main_arg3)

/-- The projection of `h` by the second layer's weights, gated by row 2 of its stream's modulation and added to the residual. -/
def proj (h : S8448x2048.Idx → EReal) (w : S2x2048x2048.Idx → EReal) (x : S8448x2048.Idx → EReal) (g : S2x8x2048.Idx → EReal) : S8448x2048.Idx → EReal := fun i =>
  x i + g (ix3 (stream (i 0).val) 2 (i 1)) * ∑ k : Fin 2048, h (ix2 (i 0) k) * w (ix3 1 k (i 1))

theorem point_lt (t : Fin cfg0.N) : t.val < 66 := lt_of_lt_of_eq t.isLt N_0

/-- The weights a point holds: columns `1024 * (t / 33)` on. -/
theorem weights_at (c : Dev nD) (t : Fin cfg0.N) (k : Fin 2048) (q : Fin 1024) :
    k0_pay1 (iblk m c 1 t) (ix2 k q)
      = argW m c (ix3 1 k ⟨1024 * (t.val / 33) + q.val, by have := point_lt t; omega⟩) := by
  have hw := windows t
  pointwise [k0_pay1]
  blk_ext [iblk, V, hw]

/-- The rows a point holds: rows `256 * (t % 33)` on. -/
theorem rows_at (c : Dev nD) (t : Fin cfg0.N) (r : Fin 256) (k : Fin 2048) :
    (iblk m c 0 t : FVec Ideal S256x2048 .bf16) (ix2 r k)
      = argH m c (ix2 ⟨256 * (t.val % 33) + r.val, by omega⟩ k) := by
  have hw := windows t
  blk_ext [iblk, V, hw]

/-- The residual a point holds. -/
theorem residual_at (c : Dev nD) (t : Fin cfg0.N) (r : Fin 256) (q : Fin 1024) :
    (iblk m c 2 t : S256x1024.Idx → EReal) (ix2 r q)
      = argX m c (ix2 ⟨256 * (t.val % 33) + r.val, by omega⟩ ⟨1024 * (t.val / 33) + q.val, by have := point_lt t; omega⟩) := by
  have hw := windows t
  blk_ext [iblk, V, hw]

/-- The gate a point holds. -/
theorem gate_at (c : Dev nD) (t : Fin cfg0.N) (q : Fin 1024) :
    (iblk m c 3 t : S1x1x1024.Idx → EReal) (ix3 0 0 q)
      = argM m c (ix3 (if t.val % 33 = 0 then 0 else 1) 2 ⟨1024 * (t.val / 33) + q.val, by have := point_lt t; omega⟩) := by
  have hw := windows t
  by_cases h : t.val % 33 = 0
  · simp only [h, if_true] at hw ⊢
    unfold iblk
    blk_simp
    entry_read
    pointwise
    blk_ext [hw]
  · simp only [h, if_false] at hw ⊢
    unfold iblk
    blk_simp
    entry_read
    pointwise
    blk_ext [hw]

theorem product_at (x : S256x2048.Idx → EReal) (s : S2048x1024.Idx → EReal) (y : S256x1024.Idx → EReal) (g : S1x1x1024.Idx → EReal) (r : Fin 256) (q : Fin 1024) :
    (k0_pay2 (F := Ideal) x s y g (ix2 r q) : EReal) = y (ix2 r q) + g (ix3 0 0 q) * ∑ k : Fin 2048, x (ix2 r k) * s (ix2 k q) := by
  pointwise [k0_pay2]

/-- The weights kept from point to point. -/
theorem kept_at (c : Dev nD) (k : Fin 2048) (q : Fin 1024) : ∀ (n : ℕ) (hn : n < cfg0.N),
    (outsAt0 m c n hn).2 (ix2 k q)
      = argW m c (ix3 1 k ⟨1024 * (n / 33) + q.val, by have := point_lt ⟨n, hn⟩; simp only at this; omega⟩)
  | n, hn => by
    by_cases h0 : n % 33 = 0
    · rw [outsAt0_A m c ⟨n, hn⟩ h0]
      frame_out
      exact weights_at m c ⟨n, hn⟩ k q
    · rw [outsAt0_B m c ⟨n, hn⟩ h0]
      have hlt : n - 1 < n := by omega
      have ih := kept_at c k q (n - 1) (by omega)
      frame_out
      have e : (n - 1) / 33 = n / 33 := by omega
      simp only [e] at ih
      exact ih

theorem out_at (c : Dev nD) (t : Fin cfg0.N) (r : Fin 256) (q : Fin 1024) :
    (outsAt0 m c t.val t.isLt).1 (ix2 r q)
      = argX m c (ix2 ⟨256 * (t.val % 33) + r.val, by omega⟩ ⟨1024 * (t.val / 33) + q.val, by have := point_lt t; omega⟩)
        + argM m c (ix3 (if t.val % 33 = 0 then 0 else 1) 2 ⟨1024 * (t.val / 33) + q.val, by have := point_lt t; omega⟩)
          * ∑ k : Fin 2048, argH m c (ix2 ⟨256 * (t.val % 33) + r.val, by omega⟩ k)
              * argW m c (ix3 1 k ⟨1024 * (t.val / 33) + q.val, by have := point_lt t; omega⟩) := by
  by_cases h0 : t.val % 33 = 0
  · rw [outsAt0_A m c t h0]
    frame_out
    rw [product_at]
    refine congrArg₂ (· + ·) (residual_at m c t r q) (congrArg₂ (· * ·) (gate_at m c t q) ?_)
    exact Finset.sum_congr rfl fun k _ => congrArg₂ (· * ·) (rows_at m c t r k) (weights_at m c t k q)
  · have hk := fun k => kept_at m c k q (t.val - 1) (Nat.lt_of_le_of_lt (Nat.sub_le _ _) t.isLt)
    have e : (t.val - 1) / 33 = t.val / 33 := by omega
    simp only [e] at hk
    rw [outsAt0_B m c t h0]
    frame_out
    simp only [read_unread_whole]
    rw [product_at]
    refine congrArg₂ (· + ·) (residual_at m c t r q) (congrArg₂ (· * ·) (gate_at m c t q) ?_)
    exact Finset.sum_congr rfl fun k _ => congrArg₂ (· * ·) (rows_at m c t r k) (hk k)

/-- The array the kernel leaves. -/
theorem result (c : Dev nD) : (dats m 0 c).arrAt 4 cfg0.N
    = proj (argH m c) (argW m c) (argX m c) (argM m c) := by
  refine (dats m 0 c).arrAt_eq_of_covers 4 _ (by decide +kernel) fun t hf y => ?_
  have hw := windows t
  blk_simp
  rw [after0_4]
  have hy : (y : S256x1024.Idx) = ix2 (y 0) (y 1) := by funext a; match a with | ⟨0, _⟩ => rfl | ⟨1, _⟩ => rfl
  refine (congrArg (outsAt0 m c t.val t.isLt).1 hy).trans ((out_at m c t (y 0) (y 1)).trans ?_)
  unfold proj
  refine congrArg₂ (· + ·) ?_ (congrArg₂ (· * ·) ?_ (Finset.sum_congr rfl fun k _ => ?_))
  · blk_ext [hw]
  · have hy0 : (y 0).val < 256 := (y 0).isLt
    have h0 : ((win0_4.blk t).view.emb y 0).val = 256 * (t.val % 33) + (y 0).val := by
      show win0_4.index t 0 * 256 + 1 * (y 0).val = _
      rw [hw.2.2.2.2]; show t.val % 33 * 256 + 1 * (y 0).val = _; omega
    have hs : (if t.val % 33 = 0 then (0 : Fin 2) else 1) = stream ((win0_4.blk t).view.emb y 0).val := by
      rw [h0]; unfold stream
      by_cases h : t.val % 33 = 0
      · rw [if_pos h, if_pos (by omega)]
      · rw [if_neg h, if_neg (by omega)]
    rw [hs]
    blk_ext [hw]
  · congr 1 <;> blk_ext [hw]

theorem value : θ_run defs (onTc (τ := τ) (main (F := Ideal))) ⟨m, fun _ => 0, ρ⟩ (fun r => ∀ c : Dev nD,
      r.2.mem ((c.tc : Thread nD τ).loc main_v2)
        = proj (argH m c) (argW m c) (argX m c) (argM m c)) :=
  (θ_run defs _ _).mono (fun _ h c => (h c).1.trans (result m c)) (Value.run_blocks m ρ)

end Cert.Kernel16Ideal.Out

end
-- ==== Proof.SecondOutEqual.lean ====
/-
  In the second layer, the output projection: the kernel's array is the one of the reference.
-/
module

public import proofs.«01_k».proof.Defs
public import proofs.«01_k».proof.Proof.SecondOutValue
public import proofs.«01_k».proof.Proof.Gen.Kernel16Ideal
public import proofs.«01_k».proof.Proof.Gen.Reference16Ideal
public import proofs.«01_k».proof.Proof.Gen.Reference16Ideal.Run
public import proofs.«01_k».proof.Proof.Gen.Reference16Ideal.Read

@[expose] public section

set_option maxRecDepth 16384

noncomputable section

namespace Cert.Proof.SecondOut

open Idealize.ShloMosaic Idealize.ShloMosaic.TcCoe Idealize.ShloMosaic.Tactic
open Idealize.SL.Sem
open Cert.Reference16Ideal

theorem reference_at (h : S8448x2048.Idx → EReal) (w : S2x2048x2048.Idx → EReal) (x : S8448x2048.Idx → EReal) (g : S2x8x2048.Idx → EReal) :
    Read.val_main_v19 (F := Ideal) h w x g = Cert.Kernel16Ideal.Out.proj h w x g := by
  funext i
  have e : ∀ j : S8448x2048.Idx, Read.val_main_v2 (F := Ideal) h w j = ∑ k : Fin 2048, h (ix2 (j 0) k) * w (ix3 1 k (j 1)) := fun j => by
    rw [Read.val_main_v2_apply]
    refine Finset.sum_congr rfl fun k _ => ?_
    rw [Read.val_main_v1_apply, Read.val_main_v0_apply]
    congr 1 <;> blk_ext []
  unfold Read.val_main_v19
  pointwise
  unfold Cert.Kernel16Ideal.Out.proj Cert.Kernel16Ideal.Out.stream
  split <;> rename_i hi
  · rw [Read.val_main_v10_apply, Read.val_main_v9_apply, Read.val_main_v8_apply, Read.val_main_v7_apply, Read.val_main_v6_apply,
      Read.val_main_v5_apply, Read.val_main_v4_apply, Read.val_main_v3_apply, e]
    refine congrArg₂ (· + ·) ?_ (congrArg₂ (· * ·) ?_ (Finset.sum_congr rfl fun k _ => ?_))
    · blk_ext []
    · blk_ext []
    · congr 1 <;> blk_ext []
  · rw [Read.val_main_v18_apply, Read.val_main_v17_apply, Read.val_main_v16_apply, Read.val_main_v15_apply, Read.val_main_v14_apply,
      Read.val_main_v13_apply, Read.val_main_v12_apply, Read.val_main_v11_apply, e]
    refine congrArg₂ (· + ·) ?_ (congrArg₂ (· * ·) ?_ (Finset.sum_congr rfl fun k _ => ?_))
    · blk_ext []
    · blk_ext []
    · congr 1
      · blk_ext []
        all_goals (show 256 + ((i 0).val - 256) = (i 0).val; omega)

theorem frame_reference : @Cert.quiescent_Reference16Ideal Cert.Reference16Ideal.Gen.facts := fun m g _ =>
  (θ_run Cert.Reference16Ideal.defs _ _).mono (fun _ h => ⟨fun c => (h c).2, sem_eq_zero_of_no_sems rfl _⟩) (Cert.Reference16Ideal.Value.run m g)

theorem algebraic : @Cert.algebraic_Kernel16Ideal_Reference16Ideal Cert.Kernel16Ideal.Gen.facts Cert.Reference16Ideal.Gen.facts := fun m g m' g' _ e => by
  refine ⟨fun c => Cert.Kernel16Ideal.Out.proj (Cert.Kernel16Ideal.Out.argH m c) (Cert.Kernel16Ideal.Out.argW m c) (Cert.Kernel16Ideal.Out.argX m c) (Cert.Kernel16Ideal.Out.argM m c), ?_, ?_⟩
  · exact (θ_run Cert.Kernel16Ideal.defs _ _).mono (fun _ h c => ⟨h.1 c, h.2.1 c⟩)
      (θ_run_and (Cert.Kernel16Ideal.Out.value m g) (Cert.Kernel16Ideal.Gen.frame m g))
  · refine (θ_run Cert.Reference16Ideal.defs _ _).mono (fun _ h c => ⟨?_, (h c).2⟩) (Cert.Reference16Ideal.Value.run m' g')
    obtain ⟨e0, e1, e2, e3⟩ := e c
    rw [(h c).1, Read.val_main_v19_eq, e0, e1, e2, e3]
    exact reference_at _ _ _ _

end Cert.Proof.SecondOut

end
-- ==== Proof.lean ====
/- It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame`, `conforms` or `preserves` claim has no disproof.
   idealize/tests/proofs/README.md, "A value claim that is FALSE", says how; 02_vector_ops
   `Proof/Disproof.lean` and 10_ideal_fields `Proof/Widths.lean` are worked examples. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.ScanFrame
public import proofs.«01_k».proof.Proof.ScanValue
public import proofs.«01_k».proof.Proof.ScanRef
public import proofs.«01_k».proof.Proof.ColsEqual
public import proofs.«01_k».proof.Proof.GatesEqual
public import proofs.«01_k».proof.Proof.MergeEqual
public import proofs.«01_k».proof.Proof.OutEqual
public import proofs.«01_k».proof.Proof.MixNorm
public import proofs.«01_k».proof.Proof.FfnNorm
public import proofs.«01_k».proof.Proof.FinalNorm
public import proofs.«01_k».proof.Proof.LruPost
public import proofs.«01_k».proof.Proof.Combine
public import proofs.«01_k».proof.Proof.Modulation
public import proofs.«01_k».proof.Proof.HgrnPost
public import proofs.«01_k».proof.Proof.SecondColsEqual
public import proofs.«01_k».proof.Proof.SecondGatesEqual
public import proofs.«01_k».proof.Proof.SecondMergeEqual
public import proofs.«01_k».proof.Proof.SecondOutEqual
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Both results, on every device, of the two sides of the scan, over any float operations. -/
theorem scan_equal {F : FTy → Type} [FloatOps F]
    (m : (ℓ : Loc Cert.KernelIdeal.nD Cert.KernelIdeal.τ Cert.KernelIdeal.sig) → Buf (Elt F) ℓ) (g : Dev Cert.KernelIdeal.nD → PrngReg)
    (m' : (ℓ : Loc Cert.ReferenceIdeal.nD Cert.ReferenceIdeal.τ Cert.ReferenceIdeal.sig) → Buf (Elt F) ℓ) (g' : Dev Cert.ReferenceIdeal.nD → PrngReg)
    (e : ∀ c : Dev Cert.KernelIdeal.nD, Cert.ReferenceIdeal.Scan.argA m' c = Cert.KernelIdeal.Scan.argA m c ∧ Cert.ReferenceIdeal.Scan.argB m' c = Cert.KernelIdeal.Scan.argB m c
      ∧ Cert.ReferenceIdeal.Scan.argC m' c = Cert.KernelIdeal.Scan.argC m c ∧ Cert.ReferenceIdeal.Scan.argD m' c = Cert.KernelIdeal.Scan.argD m c) :
    ∃ v0 v1 : Dev Cert.KernelIdeal.nD → Vec F Cert.Lru.Seq .f32,
      θ_run (Cert.KernelIdeal.defs (F := F)) (onTc (τ := Cert.KernelIdeal.τ) (Cert.KernelIdeal.main (F := F))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = Cert.KernelIdeal.Scan.argA m c
          ∧ r.2.mem ((c.tc : Thread Cert.KernelIdeal.nD Cert.KernelIdeal.τ).loc Cert.KernelIdeal.main_arg1) = Cert.KernelIdeal.Scan.argB m c
          ∧ r.2.mem ((c.tc : Thread Cert.KernelIdeal.nD Cert.KernelIdeal.τ).loc Cert.KernelIdeal.main_arg2) = Cert.KernelIdeal.Scan.argC m c
          ∧ r.2.mem ((c.tc : Thread Cert.KernelIdeal.nD Cert.KernelIdeal.τ).loc Cert.KernelIdeal.main_arg3) = Cert.KernelIdeal.Scan.argD m c)
      ∧ θ_run (Cert.ReferenceIdeal.defs (F := F)) (onTc (τ := Cert.ReferenceIdeal.τ) (Cert.ReferenceIdeal.main (F := F))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_7) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = Cert.ReferenceIdeal.Scan.argA m' c
          ∧ r.2.mem ((c.tc : Thread Cert.ReferenceIdeal.nD Cert.ReferenceIdeal.τ).loc Cert.ReferenceIdeal.main_arg1) = Cert.ReferenceIdeal.Scan.argB m' c
          ∧ r.2.mem ((c.tc : Thread Cert.ReferenceIdeal.nD Cert.ReferenceIdeal.τ).loc Cert.ReferenceIdeal.main_arg2) = Cert.ReferenceIdeal.Scan.argC m' c
          ∧ r.2.mem ((c.tc : Thread Cert.ReferenceIdeal.nD Cert.ReferenceIdeal.τ).loc Cert.ReferenceIdeal.main_arg3) = Cert.ReferenceIdeal.Scan.argD m' c) := by
  refine ⟨fun c => Cert.Lru.fwd (Cert.KernelIdeal.Scan.argA m c) (Cert.KernelIdeal.Scan.argB m c),
    fun c => Cert.Lru.bwd (Cert.KernelIdeal.Scan.argC m c) (Cert.KernelIdeal.Scan.argD m c), ?_, ?_⟩
  · exact (θ_run Cert.KernelIdeal.defs _ _).mono (fun _ h c => ⟨(h.1 c).1, (h.1 c).2, h.2.1 c⟩)
      (θ_run_and (Cert.KernelIdeal.Scan.value m g) (Cert.KernelIdeal.Scan.frame m g))
  · refine (θ_run Cert.ReferenceIdeal.defs _ _).mono (fun _ h c => ?_) (Cert.ReferenceIdeal.Scan.value m' g')
    obtain ⟨e0, e1, e2, e3⟩ := e c
    exact ⟨(h c).1.trans (congrArg₂ Cert.Lru.fwd e0 e1), (h c).2.1.trans (congrArg₂ Cert.Lru.bwd e2 e3), (h c).2.2⟩

theorem scan_algebraic : @Cert.algebraic_KernelIdeal_ReferenceIdeal Cert.KernelIdeal.Gen.facts Cert.ReferenceIdeal.Gen.facts :=
  fun m g m' g' _ e => scan_equal m g m' g' e

set_option smartUnfolding false in
set_option maxHeartbeats 1600000 in
/-- The same equality of the words: the program's own text has the operations of the text read over the reals. -/
theorem scan_bitexact : @Cert.bitexact_Kernel_Reference Cert.Kernel.Gen.facts Cert.Reference.Gen.facts :=
  fun m g m' g' _ e => by
    obtain ⟨v0, v1, h, h'⟩ := scan_equal (F := Bits) m g m' g' e
    exact ⟨v0, v1, h, h'⟩

theorem frame_reference {F : FTy → Type} [FloatOps F] (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = Cert.ReferenceIdeal.Scan.argA m c
      ∧ r.2.mem ((c.tc : Thread Cert.ReferenceIdeal.nD Cert.ReferenceIdeal.τ).loc Cert.ReferenceIdeal.main_arg1) = Cert.ReferenceIdeal.Scan.argB m c
      ∧ r.2.mem ((c.tc : Thread Cert.ReferenceIdeal.nD Cert.ReferenceIdeal.τ).loc Cert.ReferenceIdeal.main_arg2) = Cert.ReferenceIdeal.Scan.argC m c
      ∧ r.2.mem ((c.tc : Thread Cert.ReferenceIdeal.nD Cert.ReferenceIdeal.τ).loc Cert.ReferenceIdeal.main_arg3) = Cert.ReferenceIdeal.Scan.argD m c)
      ∧ r.2.sem = fun _ => 0) :=
  (θ_run Cert.ReferenceIdeal.defs _ _).mono (fun _ h => ⟨fun c => (h c).2.2, sem_eq_zero_of_no_sems rfl _⟩) (Cert.ReferenceIdeal.Scan.value m g)

set_option smartUnfolding false in
theorem frame_kernel : @Cert.quiescent_Kernel Cert.Kernel.Gen.facts := fun m g _ => Cert.KernelIdeal.Scan.frame (F := Bits) m g

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  frame_kernel,
  fun m g _ => Cert.KernelIdeal.Scan.frame m g,
  fun m g _ => frame_reference m g,
  fun m g _ => frame_reference (F := Bits) m g,
  fun m g _ => Cert.Kernel2.Gen.frame m g, fun m g _ => Cert.Kernel2Ideal.Gen.frame m g, Cols.frame_reference,
  fun m g _ => Cert.Kernel3.Gen.frame m g, fun m g _ => Cert.Kernel3Ideal.Gen.frame m g, Gates.frame_reference,
  fun m g _ => Cert.Kernel4.Gen.frame m g, fun m g _ => Cert.Kernel4Ideal.Gen.frame m g, Merge.frame_reference,
  fun m g _ => Cert.Kernel5.Gen.frame m g, fun m g _ => Cert.Kernel5Ideal.Gen.frame m g, Out.frame_reference,
  fun m g _ => Cert.Kernel6.Gen.frame m g, fun m g _ => Cert.Kernel6Ideal.Gen.frame m g, MixNorm.frame_reference,
  fun m g _ => Cert.Kernel7.Gen.frame m g, fun m g _ => Cert.Kernel7Ideal.Gen.frame m g, FfnNorm.frame_reference,
  fun m g _ => Cert.Kernel8.Gen.frame m g, fun m g _ => Cert.Kernel8Ideal.Gen.frame m g, FinalNorm.frame_reference,
  fun m g _ => Cert.Kernel9.Gen.frame m g, fun m g _ => Cert.Kernel9Ideal.Gen.frame m g, LruPost.frame_reference,
  fun m g _ => Cert.Kernel10.Gen.frame m g, fun m g _ => Cert.Kernel10Ideal.Gen.frame m g, Combine.frame_reference,
  fun m g _ => Cert.Kernel11.Gen.frame m g, fun m g _ => Cert.Kernel11Ideal.Gen.frame m g, Modulation.frame_reference,
  fun m g _ => Cert.Kernel12.Gen.frame m g, fun m g _ => Cert.Kernel12Ideal.Gen.frame m g, HgrnPost.frame_reference,
  fun m g _ => Cert.Kernel13.Gen.frame m g, fun m g _ => Cert.Kernel13Ideal.Gen.frame m g, SecondCols.frame_reference,
  fun m g _ => Cert.Kernel14.Gen.frame m g, fun m g _ => Cert.Kernel14Ideal.Gen.frame m g, SecondGates.frame_reference,
  fun m g _ => Cert.Kernel15.Gen.frame m g, fun m g _ => Cert.Kernel15Ideal.Gen.frame m g, SecondMerge.frame_reference,
  fun m g _ => Cert.Kernel16.Gen.frame m g, fun m g _ => Cert.Kernel16Ideal.Gen.frame m g, SecondOut.frame_reference,
  trivial, scan_algebraic, scan_bitexact, trivial, Cols.algebraic, trivial, Gates.algebraic, trivial, Merge.algebraic, trivial, Out.algebraic,
  trivial, MixNorm.algebraic, trivial, FfnNorm.algebraic, trivial, FinalNorm.algebraic, trivial, LruPost.algebraic, trivial, Combine.algebraic, trivial, Modulation.algebraic, trivial, HgrnPost.algebraic, trivial, SecondCols.algebraic, trivial, SecondGates.algebraic, trivial, SecondMerge.algebraic, trivial, SecondOut.algebraic⟩

end Cert.Proof

end
